-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S512x2048 : Shape := ⟨2, ![512, 2048]⟩
abbrev S8x512x512 : Shape := ⟨3, ![8, 512, 512]⟩
abbrev S2x512x2048 : Shape := ⟨3, ![2, 512, 2048]⟩
abbrev S8 : Shape := ⟨1, ![8]⟩
abbrev S2 : Shape := ⟨1, ![2]⟩
abbrev S4 : Shape := ⟨1, ![4]⟩
abbrev S_ : Shape := ⟨0, ![]⟩
abbrev S1 : Shape := ⟨1, ![1]⟩
abbrev S1x512x2048 : Shape := ⟨3, ![1, 512, 2048]⟩
abbrev S512x512 : Shape := ⟨2, ![512, 512]⟩
abbrev S1x512x512 : Shape := ⟨3, ![1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x2048, .f32⟩
  | .local _ .vmem, ⟨0, _⟩ => ⟨S4096x512, .f32⟩
  | .local _ .vmem, ⟨1, _⟩ => ⟨S4096x512, .bf16⟩
  | .local _ .vmem, ⟨2, _⟩ => ⟨S8x512x512, .bf16⟩
  | .local _ .vmem, ⟨3, _⟩ => ⟨S2x512x2048, .f32⟩
  | .local _ .vmem, ⟨4, _⟩ => ⟨S512x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.andi v2 c4_i32
  let c3_i32 : BitVec 32 := 3#32
  let v4 : BitVec 32 := Scalar.andi v2 c3_i32
  let c1_i32_0 : BitVec 32 := 1#32
  let v6 : BitVec 32 := Scalar.shrui v4 c1_i32_0
  let v7 : BitVec 32 := Scalar.xori v4 v6
  let v8 : BitVec 32 := Scalar.ori v5 v7
  let c1_i32_1 : BitVec 32 := 1#32
  let v9 : BitVec 32 := Scalar.xori v8 c1_i32_1
  let c4_i32_3 : BitVec 32 := 4#32
  let v11 : BitVec 32 := Scalar.andi v9 c4_i32_3
  let c3_i32_2 : BitVec 32 := 3#32
  let v10 : BitVec 32 := Scalar.andi v9 c3_i32_2
  let c1_i32_4 : BitVec 32 := 1#32
  let v12 : BitVec 32 := Scalar.shrui v10 c1_i32_4
  let v13 : BitVec 32 := Scalar.xori v10 v12
  let v14 : BitVec 32 := Scalar.ori v11 v13
  let c1_i32_6 : BitVec 32 := 1#32
  let v15 : BitVec 32 := Scalar.muli v14 c1_i32_6
  let v16 : BitVec 32 := Scalar.addi c0_i32 v15
  v16.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v18 : BitVec 32 := Scalar.andi v2 c4_i32_8
  let c3_i32_7 : BitVec 32 := 3#32
  let v17 : BitVec 32 := Scalar.andi v2 c3_i32_7
  let c1_i32_9 : BitVec 32 := 1#32
  let v19 : BitVec 32 := Scalar.shrui v17 c1_i32_9
  let v20 : BitVec 32 := Scalar.xori v17 v19
  let v21 : BitVec 32 := Scalar.ori v18 v20
  let c2_i32 : BitVec 32 := 2#32
  let v22 : BitVec 32 := Scalar.xori v21 c2_i32
  let c4_i32_11 : BitVec 32 := 4#32
  let v24 : BitVec 32 := Scalar.andi v22 c4_i32_11
  let c3_i32_10 : BitVec 32 := 3#32
  let v23 : BitVec 32 := Scalar.andi v22 c3_i32_10
  let c1_i32_12 : BitVec 32 := 1#32
  let v25 : BitVec 32 := Scalar.shrui v23 c1_i32_12
  let v26 : BitVec 32 := Scalar.xori v23 v25
  let v27 : BitVec 32 := Scalar.ori v24 v26
  let c1_i32_14 : BitVec 32 := 1#32
  let v28 : BitVec 32 := Scalar.muli v27 c1_i32_14
  let v29 : BitVec 32 := Scalar.addi c0_i32_15 v28
  v29.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v31 : BitVec 32 := Scalar.andi v2 c4_i32_17
  let c3_i32_16 : BitVec 32 := 3#32
  let v30 : BitVec 32 := Scalar.andi v2 c3_i32_16
  let c1_i32_18 : BitVec 32 := 1#32
  let v32 : BitVec 32 := Scalar.shrui v30 c1_i32_18
  let v33 : BitVec 32 := Scalar.xori v30 v32
  let v34 : BitVec 32 := Scalar.ori v31 v33
  let c4_i32_19 : BitVec 32 := 4#32
  let v35 : BitVec 32 := Scalar.xori v34 c4_i32_19
  let c4_i32_21 : BitVec 32 := 4#32
  let v37 : BitVec 32 := Scalar.andi v35 c4_i32_21
  let c3_i32_20 : BitVec 32 := 3#32
  let v36 : BitVec 32 := Scalar.andi v35 c3_i32_20
  let c1_i32_22 : BitVec 32 := 1#32
  let v38 : BitVec 32 := Scalar.shrui v36 c1_i32_22
  let v39 : BitVec 32 := Scalar.xori v36 v38
  let v40 : BitVec 32 := Scalar.ori v37 v39
  let c1_i32_24 : BitVec 32 := 1#32
  let v41 : BitVec 32 := Scalar.muli v40 c1_i32_24
  let v42 : BitVec 32 := Scalar.addi c0_i32_25 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_27 : BitVec 32 := 4#32
  let v44 : BitVec 32 := Scalar.andi v2 c4_i32_27
  let c3_i32_26 : BitVec 32 := 3#32
  let v43 : BitVec 32 := Scalar.andi v2 c3_i32_26
  let c1_i32_28 : BitVec 32 := 1#32
  let v45 : BitVec 32 := Scalar.shrui v43 c1_i32_28
  let v46 : BitVec 32 := Scalar.xori v43 v45
  let v47 : BitVec 32 := Scalar.ori v44 v46
  let c3_i32_29 : BitVec 32 := 3#32
  let v48 : BitVec 32 := Scalar.xori v47 c3_i32_29
  let c4_i32_31 : BitVec 32 := 4#32
  let v50 : BitVec 32 := Scalar.andi v48 c4_i32_31
  let c3_i32_30 : BitVec 32 := 3#32
  let v49 : BitVec 32 := Scalar.andi v48 c3_i32_30
  let c1_i32_32 : BitVec 32 := 1#32
  let v51 : BitVec 32 := Scalar.shrui v49 c1_i32_32
  let v52 : BitVec 32 := Scalar.xori v49 v51
  let v53 : BitVec 32 := Scalar.ori v50 v52
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_37 : BitVec 32 := 4#32
  let v57 : BitVec 32 := Scalar.andi v2 c4_i32_37
  let c3_i32_36 : BitVec 32 := 3#32
  let v56 : BitVec 32 := Scalar.andi v2 c3_i32_36
  let c1_i32_38 : BitVec 32 := 1#32
  let v58 : BitVec 32 := Scalar.shrui v56 c1_i32_38
  let v59 : BitVec 32 := Scalar.xori v56 v58
  let v60 : BitVec 32 := Scalar.ori v57 v59
  let c5_i32 : BitVec 32 := 5#32
  let v61 : BitVec 32 := Scalar.xori v60 c5_i32
  let c4_i32_40 : BitVec 32 := 4#32
  let v63 : BitVec 32 := Scalar.andi v61 c4_i32_40
  let c3_i32_39 : BitVec 32 := 3#32
  let v62 : BitVec 32 := Scalar.andi v61 c3_i32_39
  let c1_i32_41 : BitVec 32 := 1#32
  let v64 : BitVec 32 := Scalar.shrui v62 c1_i32_41
  let v65 : BitVec 32 := Scalar.xori v62 v64
  let v66 : BitVec 32 := Scalar.ori v63 v65
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_46 : BitVec 32 := 4#32
  let v70 : BitVec 32 := Scalar.andi v2 c4_i32_46
  let c3_i32_45 : BitVec 32 := 3#32
  let v69 : BitVec 32 := Scalar.andi v2 c3_i32_45
  let c1_i32_47 : BitVec 32 := 1#32
  let v71 : BitVec 32 := Scalar.shrui v69 c1_i32_47
  let v72 : BitVec 32 := Scalar.xori v69 v71
  let v73 : BitVec 32 := Scalar.ori v70 v72
  let c6_i32 : BitVec 32 := 6#32
  let v74 : BitVec 32 := Scalar.xori v73 c6_i32
  let c4_i32_49 : BitVec 32 := 4#32
  let v76 : BitVec 32 := Scalar.andi v74 c4_i32_49
  let c3_i32_48 : BitVec 32 := 3#32
  let v75 : BitVec 32 := Scalar.andi v74 c3_i32_48
  let c1_i32_50 : BitVec 32 := 1#32
  let v77 : BitVec 32 := Scalar.shrui v75 c1_i32_50
  let v78 : BitVec 32 := Scalar.xori v75 v77
  let v79 : BitVec 32 := Scalar.ori v76 v78
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_55 : BitVec 32 := 4#32
  let v83 : BitVec 32 := Scalar.andi v2 c4_i32_55
  let c3_i32_54 : BitVec 32 := 3#32
  let v82 : BitVec 32 := Scalar.andi v2 c3_i32_54
  let c1_i32_56 : BitVec 32 := 1#32
  let v84 : BitVec 32 := Scalar.shrui v82 c1_i32_56
  let v85 : BitVec 32 := Scalar.xori v82 v84
  let v86 : BitVec 32 := Scalar.ori v83 v85
  let c7_i32 : BitVec 32 := 7#32
  let v87 : BitVec 32 := Scalar.xori v86 c7_i32
  let c4_i32_58 : BitVec 32 := 4#32
  let v89 : BitVec 32 := Scalar.andi v87 c4_i32_58
  let c3_i32_57 : BitVec 32 := 3#32
  let v88 : BitVec 32 := Scalar.andi v87 c3_i32_57
  let c1_i32_59 : BitVec 32 := 1#32
  let v90 : BitVec 32 := Scalar.shrui v88 c1_i32_59
  let v91 : BitVec 32 := Scalar.xori v88 v90
  let v92 : BitVec 32 := Scalar.ori v89 v91
  let c1_i32_61 : BitVec 32 := 1#32
  let v93 : BitVec 32 := Scalar.muli v92 c1_i32_61
  let v94 : BitVec 32 := Scalar.addi c0_i32_62 v93
  v94.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v95 : BitVec 32 := Scalar.muli v2 c512_i32
  let c0_i32_67 : BitVec 32 := 0#32
  ![v95.toNat, 0]
def k0_off2 (d0 : Dev nD) (c1_i32_71 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_69 : BitVec 32 := 4#32
  let v102 : BitVec 32 := Scalar.andi v2 c4_i32_69
  let c3_i32_68 : BitVec 32 := 3#32
  let v101 : BitVec 32 := Scalar.andi v2 c3_i32_68
  let c1_i32_70 : BitVec 32 := 1#32
  let v103 : BitVec 32 := Scalar.shrui v101 c1_i32_70
  let v104 : BitVec 32 := Scalar.xori v101 v103
  let v105 : BitVec 32 := Scalar.ori v102 v104
  let v106 : BitVec 32 := Scalar.xori v105 c1_i32_71
  let c4_i32_73 : BitVec 32 := 4#32
  let v108 : BitVec 32 := Scalar.andi v106 c4_i32_73
  let c3_i32_72 : BitVec 32 := 3#32
  let v107 : BitVec 32 := Scalar.andi v106 c3_i32_72
  let c1_i32_74 : BitVec 32 := 1#32
  let v109 : BitVec 32 := Scalar.shrui v107 c1_i32_74
  let v110 : BitVec 32 := Scalar.xori v107 v109
  let v111 : BitVec 32 := Scalar.ori v108 v110
  let c512_i32_75 : BitVec 32 := 512#32
  let v112 : BitVec 32 := Scalar.muli v111 c512_i32_75
  let c0_i32_80 : BitVec 32 := 0#32
  ![v112.toNat, 0]
def k0_off3 (d0 : Dev nD) (c1_i32_85 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_83 : BitVec 32 := 4#32
  let v119 : BitVec 32 := Scalar.andi v2 c4_i32_83
  let c3_i32_82 : BitVec 32 := 3#32
  let v118 : BitVec 32 := Scalar.andi v2 c3_i32_82
  let c1_i32_84 : BitVec 32 := 1#32
  let v120 : BitVec 32 := Scalar.shrui v118 c1_i32_84
  let v121 : BitVec 32 := Scalar.xori v118 v120
  let v122 : BitVec 32 := Scalar.ori v119 v121
  let v123 : BitVec 32 := Scalar.xori v122 c1_i32_85
  let c4_i32_87 : BitVec 32 := 4#32
  let v125 : BitVec 32 := Scalar.andi v123 c4_i32_87
  let c3_i32_86 : BitVec 32 := 3#32
  let v124 : BitVec 32 := Scalar.andi v123 c3_i32_86
  let c1_i32_88 : BitVec 32 := 1#32
  let v126 : BitVec 32 := Scalar.shrui v124 c1_i32_88
  let v127 : BitVec 32 := Scalar.xori v124 v126
  let v128 : BitVec 32 := Scalar.ori v125 v127
  let c512_i32_89 : BitVec 32 := 512#32
  let v129 : BitVec 32 := Scalar.muli v128 c512_i32_89
  let v130 : Index := Scalar.indexCast v129
  let c0 : Index := 0#32
  ![v130.toNat, 0]
def k0_off4 (d0 : Dev nD) (c1_i32_85 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_83 : BitVec 32 := 4#32
  let v119 : BitVec 32 := Scalar.andi v2 c4_i32_83
  let c3_i32_82 : BitVec 32 := 3#32
  let v118 : BitVec 32 := Scalar.andi v2 c3_i32_82
  let c1_i32_84 : BitVec 32 := 1#32
  let v120 : BitVec 32 := Scalar.shrui v118 c1_i32_84
  let v121 : BitVec 32 := Scalar.xori v118 v120
  let v122 : BitVec 32 := Scalar.ori v119 v121
  let v123 : BitVec 32 := Scalar.xori v122 c1_i32_85
  let c4_i32_87 : BitVec 32 := 4#32
  let v125 : BitVec 32 := Scalar.andi v123 c4_i32_87
  let c3_i32_86 : BitVec 32 := 3#32
  let v124 : BitVec 32 := Scalar.andi v123 c3_i32_86
  let c1_i32_88 : BitVec 32 := 1#32
  let v126 : BitVec 32 := Scalar.shrui v124 c1_i32_88
  let v127 : BitVec 32 := Scalar.xori v124 v126
  let v128 : BitVec 32 := Scalar.ori v125 v127
  let c512_i32_89 : BitVec 32 := 512#32
  let v129 : BitVec 32 := Scalar.muli v128 c512_i32_89
  let c0_i32_98 : BitVec 32 := 0#32
  ![v129.toNat, 0]
def k0_dev8 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_83 : BitVec 32 := 4#32
  let v119 : BitVec 32 := Scalar.andi v2 c4_i32_83
  let c3_i32_82 : BitVec 32 := 3#32
  let v118 : BitVec 32 := Scalar.andi v2 c3_i32_82
  let c1_i32_84 : BitVec 32 := 1#32
  let v120 : BitVec 32 := Scalar.shrui v118 c1_i32_84
  let v121 : BitVec 32 := Scalar.xori v118 v120
  let v122 : BitVec 32 := Scalar.ori v119 v121
  let c1_i32_85 : BitVec 32 := 1#32
  let v123 : BitVec 32 := Scalar.xori v122 c1_i32_85
  let c4_i32_87 : BitVec 32 := 4#32
  let v125 : BitVec 32 := Scalar.andi v123 c4_i32_87
  let c3_i32_86 : BitVec 32 := 3#32
  let v124 : BitVec 32 := Scalar.andi v123 c3_i32_86
  let c1_i32_88 : BitVec 32 := 1#32
  let v126 : BitVec 32 := Scalar.shrui v124 c1_i32_88
  let v127 : BitVec 32 := Scalar.xori v124 v126
  let v128 : BitVec 32 := Scalar.ori v125 v127
  let c1_i32_94 : BitVec 32 := 1#32
  let v138 : BitVec 32 := Scalar.muli v128 c1_i32_94
  let v139 : BitVec 32 := Scalar.addi c0_i32_95 v138
  v139.toNat
def k0_dev9 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_100 : BitVec 32 := 4#32
  let v148 : BitVec 32 := Scalar.andi v2 c4_i32_100
  let c3_i32_99 : BitVec 32 := 3#32
  let v147 : BitVec 32 := Scalar.andi v2 c3_i32_99
  let c1_i32_101 : BitVec 32 := 1#32
  let v149 : BitVec 32 := Scalar.shrui v147 c1_i32_101
  let v150 : BitVec 32 := Scalar.xori v147 v149
  let v151 : BitVec 32 := Scalar.ori v148 v150
  let c2_i32_102 : BitVec 32 := 2#32
  let v152 : BitVec 32 := Scalar.xori v151 c2_i32_102
  let c4_i32_104 : BitVec 32 := 4#32
  let v154 : BitVec 32 := Scalar.andi v152 c4_i32_104
  let c3_i32_103 : BitVec 32 := 3#32
  let v153 : BitVec 32 := Scalar.andi v152 c3_i32_103
  let c1_i32_105 : BitVec 32 := 1#32
  let v155 : BitVec 32 := Scalar.shrui v153 c1_i32_105
  let v156 : BitVec 32 := Scalar.xori v153 v155
  let v157 : BitVec 32 := Scalar.ori v154 v156
  let c1_i32_112 : BitVec 32 := 1#32
  let v167 : BitVec 32 := Scalar.muli v157 c1_i32_112
  let v168 : BitVec 32 := Scalar.addi c0_i32_113 v167
  v168.toNat
def k0_dev10 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_118 : BitVec 32 := 4#32
  let v177 : BitVec 32 := Scalar.andi v2 c4_i32_118
  let c3_i32_117 : BitVec 32 := 3#32
  let v176 : BitVec 32 := Scalar.andi v2 c3_i32_117
  let c1_i32_119 : BitVec 32 := 1#32
  let v178 : BitVec 32 := Scalar.shrui v176 c1_i32_119
  let v179 : BitVec 32 := Scalar.xori v176 v178
  let v180 : BitVec 32 := Scalar.ori v177 v179
  let c4_i32_120 : BitVec 32 := 4#32
  let v181 : BitVec 32 := Scalar.xori v180 c4_i32_120
  let c4_i32_122 : BitVec 32 := 4#32
  let v183 : BitVec 32 := Scalar.andi v181 c4_i32_122
  let c3_i32_121 : BitVec 32 := 3#32
  let v182 : BitVec 32 := Scalar.andi v181 c3_i32_121
  let c1_i32_123 : BitVec 32 := 1#32
  let v184 : BitVec 32 := Scalar.shrui v182 c1_i32_123
  let v185 : BitVec 32 := Scalar.xori v182 v184
  let v186 : BitVec 32 := Scalar.ori v183 v185
  let c1_i32_130 : BitVec 32 := 1#32
  let v196 : BitVec 32 := Scalar.muli v186 c1_i32_130
  let v197 : BitVec 32 := Scalar.addi c0_i32_131 v196
  v197.toNat
def k0_dev11 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_136 : BitVec 32 := 4#32
  let v206 : BitVec 32 := Scalar.andi v2 c4_i32_136
  let c3_i32_135 : BitVec 32 := 3#32
  let v205 : BitVec 32 := Scalar.andi v2 c3_i32_135
  let c1_i32_137 : BitVec 32 := 1#32
  let v207 : BitVec 32 := Scalar.shrui v205 c1_i32_137
  let v208 : BitVec 32 := Scalar.xori v205 v207
  let v209 : BitVec 32 := Scalar.ori v206 v208
  let c3_i32_138 : BitVec 32 := 3#32
  let v210 : BitVec 32 := Scalar.xori v209 c3_i32_138
  let c4_i32_140 : BitVec 32 := 4#32
  let v212 : BitVec 32 := Scalar.andi v210 c4_i32_140
  let c3_i32_139 : BitVec 32 := 3#32
  let v211 : BitVec 32 := Scalar.andi v210 c3_i32_139
  let c1_i32_141 : BitVec 32 := 1#32
  let v213 : BitVec 32 := Scalar.shrui v211 c1_i32_141
  let v214 : BitVec 32 := Scalar.xori v211 v213
  let v215 : BitVec 32 := Scalar.ori v212 v214
  let c1_i32_148 : BitVec 32 := 1#32
  let v225 : BitVec 32 := Scalar.muli v215 c1_i32_148
  let v226 : BitVec 32 := Scalar.addi c0_i32_149 v225
  v226.toNat
def k0_dev12 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_154 : BitVec 32 := 4#32
  let v235 : BitVec 32 := Scalar.andi v2 c4_i32_154
  let c3_i32_153 : BitVec 32 := 3#32
  let v234 : BitVec 32 := Scalar.andi v2 c3_i32_153
  let c1_i32_155 : BitVec 32 := 1#32
  let v236 : BitVec 32 := Scalar.shrui v234 c1_i32_155
  let v237 : BitVec 32 := Scalar.xori v234 v236
  let v238 : BitVec 32 := Scalar.ori v235 v237
  let c5_i32_156 : BitVec 32 := 5#32
  let v239 : BitVec 32 := Scalar.xori v238 c5_i32_156
  let c4_i32_158 : BitVec 32 := 4#32
  let v241 : BitVec 32 := Scalar.andi v239 c4_i32_158
  let c3_i32_157 : BitVec 32 := 3#32
  let v240 : BitVec 32 := Scalar.andi v239 c3_i32_157
  let c1_i32_159 : BitVec 32 := 1#32
  let v242 : BitVec 32 := Scalar.shrui v240 c1_i32_159
  let v243 : BitVec 32 := Scalar.xori v240 v242
  let v244 : BitVec 32 := Scalar.ori v241 v243
  let c1_i32_166 : BitVec 32 := 1#32
  let v254 : BitVec 32 := Scalar.muli v244 c1_i32_166
  let v255 : BitVec 32 := Scalar.addi c0_i32_167 v254
  v255.toNat
def k0_dev13 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_172 : BitVec 32 := 4#32
  let v264 : BitVec 32 := Scalar.andi v2 c4_i32_172
  let c3_i32_171 : BitVec 32 := 3#32
  let v263 : BitVec 32 := Scalar.andi v2 c3_i32_171
  let c1_i32_173 : BitVec 32 := 1#32
  let v265 : BitVec 32 := Scalar.shrui v263 c1_i32_173
  let v266 : BitVec 32 := Scalar.xori v263 v265
  let v267 : BitVec 32 := Scalar.ori v264 v266
  let c6_i32_174 : BitVec 32 := 6#32
  let v268 : BitVec 32 := Scalar.xori v267 c6_i32_174
  let c4_i32_176 : BitVec 32 := 4#32
  let v270 : BitVec 32 := Scalar.andi v268 c4_i32_176
  let c3_i32_175 : BitVec 32 := 3#32
  let v269 : BitVec 32 := Scalar.andi v268 c3_i32_175
  let c1_i32_177 : BitVec 32 := 1#32
  let v271 : BitVec 32 := Scalar.shrui v269 c1_i32_177
  let v272 : BitVec 32 := Scalar.xori v269 v271
  let v273 : BitVec 32 := Scalar.ori v270 v272
  let c1_i32_184 : BitVec 32 := 1#32
  let v283 : BitVec 32 := Scalar.muli v273 c1_i32_184
  let v284 : BitVec 32 := Scalar.addi c0_i32_185 v283
  v284.toNat
def k0_dev14 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_190 : BitVec 32 := 4#32
  let v293 : BitVec 32 := Scalar.andi v2 c4_i32_190
  let c3_i32_189 : BitVec 32 := 3#32
  let v292 : BitVec 32 := Scalar.andi v2 c3_i32_189
  let c1_i32_191 : BitVec 32 := 1#32
  let v294 : BitVec 32 := Scalar.shrui v292 c1_i32_191
  let v295 : BitVec 32 := Scalar.xori v292 v294
  let v296 : BitVec 32 := Scalar.ori v293 v295
  let c7_i32_192 : BitVec 32 := 7#32
  let v297 : BitVec 32 := Scalar.xori v296 c7_i32_192
  let c4_i32_194 : BitVec 32 := 4#32
  let v299 : BitVec 32 := Scalar.andi v297 c4_i32_194
  let c3_i32_193 : BitVec 32 := 3#32
  let v298 : BitVec 32 := Scalar.andi v297 c3_i32_193
  let c1_i32_195 : BitVec 32 := 1#32
  let v300 : BitVec 32 := Scalar.shrui v298 c1_i32_195
  let v301 : BitVec 32 := Scalar.xori v298 v300
  let v302 : BitVec 32 := Scalar.ori v299 v301
  let c1_i32_202 : BitVec 32 := 1#32
  let v312 : BitVec 32 := Scalar.muli v302 c1_i32_202
  let v313 : BitVec 32 := Scalar.addi c0_i32_203 v312
  v313.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_207 : BitVec 32 := 512#32
  let v321 : BitVec 32 := Scalar.muli v2 c512_i32_207
  let v322 : Index := Scalar.indexCast v321
  let c0_208 : Index := 0#32
  ![v322.toNat, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Mesh.lean ====
/-
# The exchange pattern

Eight devices stand at the corners of a cube. In step `s` (`s = 1 … 7`) device `c` exchanges one block with the
device `peer s c`; step `0` is the device itself. This module names the partners, shows that each step pairs the
devices off, and reads the kernel's address arithmetic — the device numbers it signals and sends to, the row
offsets it loads, stores and copies at — as these partners.
-/
module

public import proofs.«01_k».proof.Proof.Gen.KernelIdeal.Frame
public import proofs.«01_k».proof.Proof.Gen.KernelIdeal.Skeleton

@[expose] public section

noncomputable section

namespace Cert.Exchange

open Cert.KernelIdeal Cert.KernelIdeal.Gen
open Idealize.ShloMosaic

/-- The device that device `c` exchanges with in step `s`: one row of the table per step. -/
def peer (s : Fin 8) (c : Dev nD) : Dev nD :=
  (![![0, 1, 2, 3, 4, 5, 6, 7], ![1, 0, 3, 2, 5, 4, 7, 6], ![3, 2, 1, 0, 7, 6, 5, 4], ![2, 3, 0, 1, 6, 7, 4, 5],
     ![4, 5, 6, 7, 0, 1, 2, 3], ![5, 4, 7, 6, 1, 0, 3, 2], ![7, 6, 5, 4, 3, 2, 1, 0], ![6, 7, 4, 5, 2, 3, 0, 1]] :
    Fin 8 → Fin 8 → Fin 8) s c

/-- Step `0` pairs a device with itself. -/
theorem peer_zero (c : Dev nD) : peer 0 c = c := by revert c; decide
/-- Every step pairs the devices off: the partner's partner is the device itself. -/
theorem peer_peer (s : Fin 8) (c : Dev nD) : peer s (peer s c) = c := by revert s c; decide
/-- A device meets every device exactly once: over the steps its partners are distinct. -/
theorem peer_injective (c : Dev nD) : Function.Injective fun s => peer s c := by revert c; decide

/-- The steps of a device against its partners, as a permutation. -/
def peers (c : Dev nD) : Fin 8 ≃ Dev nD :=
  Equiv.ofBijective (fun s => peer s c) ((Finite.injective_iff_bijective).mp (peer_injective c))

/-- One step, as a permutation of the devices. -/
def pairing (s : Fin 8) : Dev nD ≃ Dev nD := ⟨peer s, peer s, peer_peer s, peer_peer s⟩

/-- The offset of a block of 512 rows. -/
abbrev rowOff (b : Dev nD) : Fin 2 → ℕ := ![512 * b.val, 0]
/-- The step number as the 32-bit word that the printed offsets take; the steps proper are `w + 1`, `w = 0 … 6`. -/
abbrev stepWord (w : Fin 7) : BitVec 32 := BitVec.ofNat 32 (1 + w.val)

theorem fetch_off : ∀ (c : Dev nD) (w : Fin 7), k0_off2 c (stepWord w) = rowOff (peer w.succ c) := by decide +kernel
theorem stage_off : ∀ (c : Dev nD) (w : Fin 7), k0_off3 c (stepWord w) = rowOff (peer w.succ c) := by decide +kernel
theorem send_off : ∀ (c : Dev nD) (w : Fin 7), k0_off4 c (stepWord w) = rowOff (peer w.succ c) := by decide +kernel

/-- The barrier signals go to the partners of steps 1, 2, 4, 3, 5, 6, 7 in this order. -/
theorem signal1 (c : Dev nD) : (⟨k0_dev1 c, k0_dev1_lt c⟩ : Dev nD) = peer 1 c := by revert c; decide +kernel
theorem signal2 (c : Dev nD) : (⟨k0_dev2 c, k0_dev2_lt c⟩ : Dev nD) = peer 2 c := by revert c; decide +kernel
theorem signal3 (c : Dev nD) : (⟨k0_dev3 c, k0_dev3_lt c⟩ : Dev nD) = peer 4 c := by revert c; decide +kernel
theorem signal4 (c : Dev nD) : (⟨k0_dev4 c, k0_dev4_lt c⟩ : Dev nD) = peer 3 c := by revert c; decide +kernel
theorem signal5 (c : Dev nD) : (⟨k0_dev5 c, k0_dev5_lt c⟩ : Dev nD) = peer 5 c := by revert c; decide +kernel
theorem signal6 (c : Dev nD) : (⟨k0_dev6 c, k0_dev6_lt c⟩ : Dev nD) = peer 6 c := by revert c; decide +kernel
theorem signal7 (c : Dev nD) : (⟨k0_dev7 c, k0_dev7_lt c⟩ : Dev nD) = peer 7 c := by revert c; decide +kernel

/-- The copies go to the same partners in the same order. -/
theorem target1 (c : Dev nD) : (⟨k0_dev8 c, k0_dev8_lt c⟩ : Dev nD) = peer 1 c := by revert c; decide +kernel
theorem target2 (c : Dev nD) : (⟨k0_dev9 c, k0_dev9_lt c⟩ : Dev nD) = peer 2 c := by revert c; decide +kernel
theorem target3 (c : Dev nD) : (⟨k0_dev10 c, k0_dev10_lt c⟩ : Dev nD) = peer 4 c := by revert c; decide +kernel
theorem target4 (c : Dev nD) : (⟨k0_dev11 c, k0_dev11_lt c⟩ : Dev nD) = peer 3 c := by revert c; decide +kernel
theorem target5 (c : Dev nD) : (⟨k0_dev12 c, k0_dev12_lt c⟩ : Dev nD) = peer 5 c := by revert c; decide +kernel
theorem target6 (c : Dev nD) : (⟨k0_dev13 c, k0_dev13_lt c⟩ : Dev nD) = peer 6 c := by revert c; decide +kernel
theorem target7 (c : Dev nD) : (⟨k0_dev14 c, k0_dev14_lt c⟩ : Dev nD) = peer 7 c := by revert c; decide +kernel

end Cert.Exchange

end
-- ==== Proof.Buffers.lean ====
/-
# The buffers of the exchange, cut into blocks

A device works on its buffers block by block: the bf16 copy of its columns of `x` in eight blocks of 512 rows (one per
destination), the receive buffer in eight slots (one per step), the weights in eight blocks of 512 rows, their two
staging banks, the accumulator and the result in four blocks of 512 columns. This module names these blocks, what they
hold in the course of the run, and the cuts of the whole buffers into them.
-/
module

public import proofs.«01_k».proof.Proof.Mesh
public import Idealize.ShloMosaic.Lib.Pipeline.Launch
public import Idealize.ShloMosaic.Lib.Pipeline.Kit
public import Idealize.ShloMosaic.Lib.Pipeline.Value
public import Idealize.ShloMosaic.Lib.Pipeline.FrameBody
public import Idealize.ShloMosaic.Lib.Transfers
public import Idealize.ShloMosaic.Lib.Writes
public import Idealize.ShloMosaic.Lib.Ring
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

/-! ## The resource algebra: the pipeline's copy, the exchange's rounds (duties named by the step), local transfers -/

/-- The rounds of the exchange's semaphores; a duty is named by its step less one. -/
abbrev UB : Type := URounds (GSem nD τ sig) (Fin 7)
abbrev UU : Type := UR sig nD τ × (UB × Counters)

local notation "𝕄" => MT nD τ sig Unit (Elt F) ℕ UU ℕ

/-- The pipeline library's component, -/
abbrev EP : Emb (UR sig nD τ) (MT nD τ sig Unit (Elt F) ℕ UU ℕ) := embL
/-- the rounds, -/
def ER : Emb UB (MT nD τ sig Unit (Elt F) ℕ UU ℕ) :=
  (((Emb.inl : Emb UB (UB × Counters)).trans (Emb.inr : Emb (UB × Counters) UU)).trans
    (uEmb (nD := nD) (sig := sig) (Ix := Unit) (Val := Elt F) (Name := ℕ) (U := UU) (Lvl := ℕ)).toEmb)
instance : (ER (F := F)).LandsIn (upEmb : UEmb _ 𝕄) := by unfold ER; infer_instance
/-- and the counters of a device's own transfers. -/
abbrev EC : UEmb Counters (MT nD τ sig Unit (Elt F) ℕ UU ℕ) := countersEmb

variable (m : (ℓ : Loc nD τ sig) → Buf (Elt F) ℓ)

/-! ## The blocks -/

theorem rows_inb (b : Dev nD) : ∀ a, rowOff b a + S512x512.size a ≤ S4096x512.size a := by revert b; decide
theorem slot_inb (s : Fin 8) : ∀ a, (![s.val, 0, 0] : Fin 3 → ℕ) a + S1x512x512.size a ≤ S8x512x512.size a := by revert s; decide
theorem wrows_inb (b : Dev nD) : ∀ a, rowOff b a + S512x2048.size a ≤ S4096x2048.size a := by revert b; decide
theorem bank_inb (p : Fin 2) : ∀ a, (![p.val, 0, 0] : Fin 3 → ℕ) a + S1x512x2048.size a ≤ S2x512x2048.size a := by revert p; decide
theorem cols_inb (j : Fin 4) : ∀ a, (![0, 512 * j.val] : Fin 2 → ℕ) a + S512x512.size a ≤ S512x2048.size a := by revert j; decide

/-- The block of 512 rows at `512 b` of a device's columns of `x`; -/
abbrev rows (b : Dev nD) : Rect S4096x512 := Rect.unit (rowOff b) S512x512.size (rows_inb b)
/-- slot `s` of the receive buffer; -/
abbrev slot (s : Fin 8) : Rect S8x512x512 := Rect.unit ![s.val, 0, 0] S1x512x512.size (slot_inb s)
/-- the block of 512 rows at `512 b` of the weights; -/
abbrev wrows (b : Dev nD) : Rect S4096x2048 := Rect.unit (rowOff b) S512x2048.size (wrows_inb b)
/-- bank `p` of the weights' staging buffer; -/
abbrev bank (p : Fin 2) : Rect S2x512x2048 := Rect.unit ![p.val, 0, 0] S1x512x2048.size (bank_inb p)
/-- and the block of 512 columns at `512 j` of the accumulator and of the result. -/
abbrev cols (j : Fin 4) : Rect S512x2048 := Rect.unit ![0, 512 * j.val] S512x512.size (cols_inb j)

/-! ## What the buffers hold -/

/-- Device `c`'s columns of `x`, as the pipeline stages them. -/
def xIn (c : Dev nD) : (cc0_stg0_0 : Ref sig .tc).ty.Contents (Elt F) :=
  (win0_0.blk (0 : Fin 1)).view.read (Elt F) (m ((c : Thread nD τ).loc main_arg0))
/-- Device `c`'s copy of the weights. -/
def wIn (c : Dev nD) : (main_arg1 : Ref sig .tc).ty.Contents (Elt F) := m ((c : Thread nD τ).loc main_arg1)
/-- Its columns of `x` rounded to bf16. -/
def xBf (c : Dev nD) : (cc0_scratch0 : Ref sig .tc).ty.Contents (Elt F) :=
  truncf (F := F) (s := S4096x512) .bf16 (xIn m c) bitsLt_bf16_f32
/-- What device `d` has received in the end: slot `s` holds the rows at `512 d` of the columns of its partner of step `s`. -/
def received (d : Dev nD) : (cc0_scratch1 : Ref sig .tc).ty.Contents (Elt F) :=
  fun i : S8x512x512.Idx => xBf m (peer (i 0) d) ((rows d).emb fun a => i a.succ)
/-- A bank that holds the weights' rows at `512 b`. -/
def banked (c b : Dev nD) : (cc0_scratch2 : Ref sig .tc).ty.Contents (Elt F) :=
  fun i : S2x512x2048.Idx => wIn m c ((wrows b).emb fun a => i a.succ)

/-! ## The blocks held -/

abbrev xPts (c : Dev nD) (f : (cc0_stg0_0 : Ref sig .tc).ty.Contents (Elt F)) : sProp 𝕄 :=
  ((c : Thread nD τ).loc cc0_stg0_0) ↦{fullShare} f
abbrev rowPts (c b : Dev nD) (f : (cc0_scratch0 : Ref sig .tc).ty.Contents (Elt F)) : sProp 𝕄 :=
  ((c : Thread nD τ).loc cc0_scratch0) ↦[(rows b).set]{fullShare} f
abbrev slotPts (c : Dev nD) (s : Fin 8) (f : (cc0_scratch1 : Ref sig .tc).ty.Contents (Elt F)) : sProp 𝕄 :=
  ((c : Thread nD τ).loc cc0_scratch1) ↦[(slot s).set]{fullShare} f
abbrev wrowPts (c b : Dev nD) (f : (main_arg1 : Ref sig .tc).ty.Contents (Elt F)) : sProp 𝕄 :=
  ((c : Thread nD τ).loc main_arg1) ↦[(wrows b).set]{fullShare} f
abbrev bankPts (c : Dev nD) (p : Fin 2) (f : (cc0_scratch2 : Ref sig .tc).ty.Contents (Elt F)) : sProp 𝕄 :=
  ((c : Thread nD τ).loc cc0_scratch2) ↦[(bank p).set]{fullShare} f
abbrev accPts (c : Dev nD) (f : (cc0_scratch3 : Ref sig .tc).ty.Contents (Elt F)) : sProp 𝕄 :=
  ((c : Thread nD τ).loc cc0_scratch3) ↦{fullShare} f
abbrev colPts (c : Dev nD) (j : Fin 4) (f : (cc0_scratch3 : Ref sig .tc).ty.Contents (Elt F)) : sProp 𝕄 :=
  ((c : Thread nD τ).loc cc0_scratch3) ↦[(cols j).set]{fullShare} f
abbrev outPts (c : Dev nD) (j : Fin 4) (f : (main_v1 : Ref sig .tc).ty.Contents (Elt F)) : sProp 𝕄 :=
  ((c : Thread nD τ).loc main_v1) ↦[(cols j).set]{fullShare} f

/-! ## The cuts -/

section Sets

/-- The blocks of rows of the bf16 copy, as element sets: pairwise disjoint, covering. -/
abbrev rowsSet (b : Fin 8) : Finset S4096x512.Idx := (rows b).set
theorem rows_disjoint : ∀ b b' : Fin 8, b ≠ b' → Disjoint (rowsSet b) (rowsSet b') := fun b b' h =>
  lead_disjoint (s := S4096x512) 0 512 (fun b : Fin 8 => rowOff b) S512x512.size rows_inb (fun _ => rfl) rfl b b' h
theorem rows_cover : Finset.univ.biUnion rowsSet = (Finset.univ : Finset S4096x512.Idx) :=
  lead_cover (s := S4096x512) 0 512 (fun b : Fin 8 => rowOff b) S512x512.size rows_inb (fun _ => rfl) (by decide) rfl (by decide) (by decide)

/-- The slots of the receive buffer likewise; -/
abbrev slotsSet (b : Fin 8) : Finset S8x512x512.Idx := (slot b).set
theorem slots_disjoint : ∀ b b' : Fin 8, b ≠ b' → Disjoint (slotsSet b) (slotsSet b') := fun b b' h =>
  lead_disjoint (s := S8x512x512) 0 1 (fun b : Fin 8 => ![b.val, 0, 0]) S1x512x512.size slot_inb (by decide) rfl b b' h
theorem slots_cover : Finset.univ.biUnion slotsSet = (Finset.univ : Finset S8x512x512.Idx) :=
  lead_cover (s := S8x512x512) 0 1 (fun b : Fin 8 => ![b.val, 0, 0]) S1x512x512.size slot_inb (by decide) (by decide) rfl (by decide) (by decide)

/-- the blocks of rows of the weights; -/
abbrev wrowsSet (b : Fin 8) : Finset S4096x2048.Idx := (wrows b).set
theorem wrows_disjoint : ∀ b b' : Fin 8, b ≠ b' → Disjoint (wrowsSet b) (wrowsSet b') := fun b b' h =>
  lead_disjoint (s := S4096x2048) 0 512 (fun b : Fin 8 => rowOff b) S512x2048.size wrows_inb (fun _ => rfl) rfl b b' h
theorem wrows_cover : Finset.univ.biUnion wrowsSet = (Finset.univ : Finset S4096x2048.Idx) :=
  lead_cover (s := S4096x2048) 0 512 (fun b : Fin 8 => rowOff b) S512x2048.size wrows_inb (fun _ => rfl) (by decide) rfl (by decide) (by decide)

/-- the banks of the staging buffer; -/
abbrev banksSet (b : Fin 2) : Finset S2x512x2048.Idx := (bank b).set
theorem banks_disjoint : ∀ b b' : Fin 2, b ≠ b' → Disjoint (banksSet b) (banksSet b') := fun b b' h =>
  lead_disjoint (s := S2x512x2048) 0 1 (fun b : Fin 2 => ![b.val, 0, 0]) S1x512x2048.size bank_inb (by decide) rfl b b' h
theorem banks_cover : Finset.univ.biUnion banksSet = (Finset.univ : Finset S2x512x2048.Idx) :=
  lead_cover (s := S2x512x2048) 0 1 (fun b : Fin 2 => ![b.val, 0, 0]) S1x512x2048.size bank_inb (by decide) (by decide) rfl (by decide) (by decide)

/-- the blocks of columns of the accumulator and of the result. -/
abbrev colsSet (b : Fin 4) : Finset S512x2048.Idx := (cols b).set
theorem cols_disjoint : ∀ b b' : Fin 4, b ≠ b' → Disjoint (colsSet b) (colsSet b') := fun b b' h =>
  lead_disjoint (s := S512x2048) 1 512 (fun b : Fin 4 => ![0, 512 * b.val]) S512x512.size cols_inb (by decide) rfl b b' h
theorem cols_cover : Finset.univ.biUnion colsSet = (Finset.univ : Finset S512x2048.Idx) :=
  lead_cover (s := S512x2048) 1 512 (fun b : Fin 4 => ![0, 512 * b.val]) S512x512.size cols_inb (by decide) (by decide) rfl (by decide) (by decide)

end Sets

section Cuts
variable (c : Dev nD)

/-- The bf16 copy is its eight blocks of rows; -/
theorem cut_rows (f : (cc0_scratch0 : Ref sig .tc).ty.Contents (Elt F)) :
    ((((c : Thread nD τ).loc cc0_scratch0) ↦{fullShare} f) : sProp 𝕄) = bigSep Finset.univ fun b : Fin 8 => rowPts c b f :=
  pointsTo_blocks (ℓ := (c : Thread nD τ).loc cc0_scratch0) rowsSet rows_disjoint rows_cover f

/-- the receive buffer its eight slots; -/
theorem cut_slots (f : (cc0_scratch1 : Ref sig .tc).ty.Contents (Elt F)) :
    ((((c : Thread nD τ).loc cc0_scratch1) ↦{fullShare} f) : sProp 𝕄) = bigSep Finset.univ fun b : Fin 8 => slotPts c b f :=
  pointsTo_blocks (ℓ := (c : Thread nD τ).loc cc0_scratch1) slotsSet slots_disjoint slots_cover f

/-- the weights their eight blocks of rows; -/
theorem cut_wrows (f : (main_arg1 : Ref sig .tc).ty.Contents (Elt F)) :
    ((((c : Thread nD τ).loc main_arg1) ↦{fullShare} f) : sProp 𝕄) = bigSep Finset.univ fun b : Fin 8 => wrowPts c b f :=
  pointsTo_blocks (ℓ := (c : Thread nD τ).loc main_arg1) wrowsSet wrows_disjoint wrows_cover f

/-- the staging buffer its two banks; -/
theorem cut_banks (f : (cc0_scratch2 : Ref sig .tc).ty.Contents (Elt F)) :
    ((((c : Thread nD τ).loc cc0_scratch2) ↦{fullShare} f) : sProp 𝕄) = bigSep Finset.univ fun b : Fin 2 => bankPts c b f :=
  pointsTo_blocks (ℓ := (c : Thread nD τ).loc cc0_scratch2) banksSet banks_disjoint banks_cover f

/-- the accumulator its four blocks of columns; -/
theorem cut_acc (f : (cc0_scratch3 : Ref sig .tc).ty.Contents (Elt F)) :
    ((((c : Thread nD τ).loc cc0_scratch3) ↦{fullShare} f) : sProp 𝕄) = bigSep Finset.univ fun b : Fin 4 => colPts c b f :=
  pointsTo_blocks (ℓ := (c : Thread nD τ).loc cc0_scratch3) colsSet cols_disjoint cols_cover f

/-- and the result too. -/
theorem cut_out (f : (main_v1 : Ref sig .tc).ty.Contents (Elt F)) :
    ((((c : Thread nD τ).loc main_v1) ↦{fullShare} f) : sProp 𝕄) = bigSep Finset.univ fun b : Fin 4 => outPts c b f :=
  pointsTo_blocks (ℓ := (c : Thread nD τ).loc main_v1) colsSet cols_disjoint cols_cover f

/-! The blocks at any contents each are the buffer at some contents. -/

theorem join_rows (f₀ : (cc0_scratch0 : Ref sig .tc).ty.Contents (Elt F)) : bigSep Finset.univ (fun b : Fin 8 => iprop(∃ f, rowPts c b f))
    ⊢ (iprop(∃ f, ((c : Thread nD τ).loc cc0_scratch0) ↦{fullShare} f) : sProp 𝕄) :=
  pointsTo_blocks_join_exists (ℓ := (c : Thread nD τ).loc cc0_scratch0) rowsSet rows_disjoint rows_cover f₀

theorem join_slots (f₀ : (cc0_scratch1 : Ref sig .tc).ty.Contents (Elt F)) : bigSep Finset.univ (fun b : Fin 8 => iprop(∃ f, slotPts c b f))
    ⊢ (iprop(∃ f, ((c : Thread nD τ).loc cc0_scratch1) ↦{fullShare} f) : sProp 𝕄) :=
  pointsTo_blocks_join_exists (ℓ := (c : Thread nD τ).loc cc0_scratch1) slotsSet slots_disjoint slots_cover f₀

theorem join_banks (f₀ : (cc0_scratch2 : Ref sig .tc).ty.Contents (Elt F)) : bigSep Finset.univ (fun b : Fin 2 => iprop(∃ f, bankPts c b f))
    ⊢ (iprop(∃ f, ((c : Thread nD τ).loc cc0_scratch2) ↦{fullShare} f) : sProp 𝕄) :=
  pointsTo_blocks_join_exists (ℓ := (c : Thread nD τ).loc cc0_scratch2) banksSet banks_disjoint banks_cover f₀

theorem join_acc (f₀ : (cc0_scratch3 : Ref sig .tc).ty.Contents (Elt F)) : bigSep Finset.univ (fun b : Fin 4 => iprop(∃ f, colPts c b f))
    ⊢ (iprop(∃ f, ((c : Thread nD τ).loc cc0_scratch3) ↦{fullShare} f) : sProp 𝕄) :=
  pointsTo_blocks_join_exists (ℓ := (c : Thread nD τ).loc cc0_scratch3) colsSet cols_disjoint cols_cover f₀

end Cuts

/-! ## Writing through a view what another contents reads there -/

/-- Under a view, a buffer written with what `g` reads through it holds `g`. -/
theorem landed (c : Dev nD) {sp : Space} {s : Shape} {e : EltTy} (v : View sig .tc sp s e) (q : PosShare TreeShare)
    (fd g : Buf (Elt F) (v.loc (c : Thread nD τ))) (w : s.Idx → Elt F e) (hw : w = v.read (Elt F) g) :
    (v.loc (c : Thread nD τ) ↦[v.set]{q} v.write (Elt F) fd w Finset.univ : sProp 𝕄) = v.loc (c : Thread nD τ) ↦[v.set]{q} g := by
  subst hw
  refine pointsTo_congr fun i hi => ?_
  obtain ⟨x, -, rfl⟩ := Finset.mem_map.mp hi
  rw [View.write_emb_of_mem _ _ (Finset.mem_univ _), View.read_apply, cast_cast, cast_eq]

end Cert.Exchange

end
-- ==== Proof.Schedule.lean ====
/-
# The protocol

Device `c` deals with its partner of step `s = w + 1` (`w = 0 … 6`) over three semaphores of each:

* the BARRIER cell of a device takes seven duties of one unit, one per step: the partner of step `w + 1` pays duty `w`
  and hands over its own receive slot `w + 1`, into which the device will copy;
* the SEND cell `w` takes one duty, the credit of one block: it hands the device back the rows it sent;
* the RECEIVE cell `w` takes one duty of the same credit, paid by the partner's copy: it hands the device its slot
  `w + 1` filled with the partner's rows.

At launch a device owes its partners the seven signals and the seven copies. It waits on its barrier owing the copies
only, and on every other cell owing nothing.
-/
module

public import proofs.«01_k».proof.Proof.Buffers

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cells -/

/-- The runtime's barrier semaphore, the send and receive semaphores of a step, those of the weights' two banks and of
    the result's four blocks. -/
abbrev barS : Sem sig := (SemArray.scalar (sig.barrier 0 rfl) : Sems sig S_).sem
abbrev sendSem (w : Fin 7) : DmaSem sig := ⟨2 + w.val, by have := w.isLt; show 2 + w.val < 23; omega⟩
abbrev recvSem (w : Fin 7) : DmaSem sig := ⟨10 + w.val, by have := w.isLt; show 10 + w.val < 23; omega⟩
abbrev bankSem (p : Fin 2) : DmaSem sig := ⟨17 + p.val, by have := p.isLt; show 17 + p.val < 23; omega⟩
abbrev outSem (j : Fin 4) : DmaSem sig := ⟨19 + j.val, by have := j.isLt; show 19 + j.val < 23; omega⟩

abbrev barCell (c : Dev nD) : GSem nD τ sig := ((c : Thread nD τ), .reg barS)
abbrev sendCell (w : Fin 7) (c : Dev nD) : GSem nD τ sig := ((c : Thread nD τ), .dma (sendSem w))
abbrev recvCell (w : Fin 7) (c : Dev nD) : GSem nD τ sig := ((c : Thread nD τ), .dma (recvSem w))

/-- What a semaphore is to the protocol. -/
inductive Role where
  | bar | send (w : Fin 7) | recv (w : Fin 7) | other

/-- The role of a semaphore, read off its number. -/
def role : SemLoc sig → Role
  | .reg _ => .bar
  | .dma q => (![.other, .other, .send 0, .send 1, .send 2, .send 3, .send 4, .send 5, .send 6, .other,
      .recv 0, .recv 1, .recv 2, .recv 3, .recv 4, .recv 5, .recv 6, .other, .other, .other, .other, .other, .other] :
      Fin 23 → Role) q

theorem role_send (w : Fin 7) : role (.dma (sendSem w)) = .send w := by fin_cases w <;> rfl
theorem role_recv (w : Fin 7) : role (.dma (recvSem w)) = .recv w := by fin_cases w <;> rfl

/-- The receive slot `s` as the copies name it, and the credit of one block. -/
abbrev slotM (s : Fin 8) : Memref sig .tc .vmem S512x512 .bf16 :=
  ((Memref.whole cc0_scratch1).slice (slot s) (fun _ => rfl)).squeeze S512x512 squeezes_S1x512x512_S512x512
abbrev N : ℕ := (slotM 1).view.dmaCredit
theorem N_pos : 0 < N := View.dmaCredit_pos _ (by decide)

/-! ## The schedule -/

/-- What duty `w` of device `c`'s barrier cell hands it: slot `w + 1` of its partner of step `w + 1`. -/
def barPay (c : Dev nD) (w : Fin 7) : sProp 𝕄 := iprop(∃ f, slotPts (peer w.succ c) w.succ f)
/-- What the send cell hands back: the rows sent. -/
def sendPay (c : Dev nD) (w : Fin 7) : sProp 𝕄 := rowPts c (peer w.succ c) (xBf m c)
/-- What the receive cell hands over: the slot filled. -/
def recvPay (c : Dev nD) (w : Fin 7) : sProp 𝕄 := slotPts c w.succ (received m c)

/-- The payload of a cell of device `c` by its role. -/
def payOf (c : Dev nD) (d : Fin 7) : Role → sProp 𝕄
  | .bar => barPay c d
  | .send w => sendPay m c w
  | .recv w => recvPay m c w
  | .other => iprop(emp)
/-- The duties of its one round. -/
def dutiesOf : Role → Finset (Fin 7)
  | .bar => Finset.univ
  | .send _ => {0}
  | .recv _ => {0}
  | .other => ∅
def amountOf : Role → ℕ
  | .bar => 1
  | _ => N

instance payOf_storable (c : Dev nD) (d : Fin 7) (r : Role) : BI.Storable (upEmb : UEmb _ 𝕄) (payOf m c d r) := by
  cases r <;> dsimp only [payOf] <;> (try unfold barPay) <;> (try unfold sendPay) <;> (try unfold recvPay) <;> infer_instance

/-- The exchange: one round at every cell of a TensorCore that has a role. -/
def exchange : Rounds.Schedule (GSem nD τ sig) (Fin 7) 𝕄 where
  duties g r := if r = 0 ∧ g.1.2 = .tc then dutiesOf (role g.2) else ∅
  unitless _ := False
  amount g _ _ := amountOf (role g.2)
  payload g _ d := payOf m g.1.1 d (role g.2)
  amount_pos g _ _ _ := by cases role g.2 <;> first | exact Nat.one_pos | exact N_pos

instance exchange_payload_storable (g : GSem nD τ sig) (r : ℕ) (d : Fin 7) :
    BI.Storable (upEmb : UEmb _ 𝕄) ((exchange m).payload g r d) := payOf_storable m _ _ _

section Tables
variable (c : Dev nD)

theorem duties_bar : (exchange m).duties (barCell c) 0 = Finset.univ := by
  dsimp only [exchange]; exact if_pos ⟨rfl, rfl⟩
theorem duties_send (w : Fin 7) : (exchange m).duties (sendCell w c) 0 = {0} := by
  dsimp only [exchange]; rw [role_send]; exact if_pos ⟨rfl, rfl⟩
theorem duties_recv (w : Fin 7) : (exchange m).duties (recvCell w c) 0 = {0} := by
  dsimp only [exchange]; rw [role_recv]; exact if_pos ⟨rfl, rfl⟩
theorem duties_later (g : GSem nD τ sig) : ∀ r, 1 ≤ r → (exchange m).duties g r = ∅ :=
  fun r hr => if_neg fun h => by omega

theorem amount_bar (d : Fin 7) : (exchange m).amount (barCell c) 0 d = 1 := rfl
theorem amount_send (w d : Fin 7) : (exchange m).amount (sendCell w c) 0 d = N := congrArg amountOf (role_send w)
theorem amount_recv (w d : Fin 7) : (exchange m).amount (recvCell w c) 0 d = N := congrArg amountOf (role_recv w)

theorem payload_bar (d : Fin 7) : (exchange m).payload (barCell c) 0 d = barPay c d := rfl
theorem payload_send (w d : Fin 7) : (exchange m).payload (sendCell w c) 0 d = sendPay m c w :=
  congrArg (payOf m c d) (role_send w)
theorem payload_recv (w d : Fin 7) : (exchange m).payload (recvCell w c) 0 d = recvPay m c w :=
  congrArg (payOf m c d) (role_recv w)

theorem expect_bar : (exchange m).expect (barCell c) 0 = 7 := by
  unfold Schedule.expect Schedule.amountOf
  rw [duties_bar, Finset.sum_congr rfl fun d _ => amount_bar m c d, Finset.sum_const, Finset.card_univ, Fintype.card_fin, smul_eq_mul]
theorem expect_send (w : Fin 7) : (exchange m).expect (sendCell w c) 0 = N := by
  unfold Schedule.expect Schedule.amountOf; rw [duties_send, Finset.sum_singleton, amount_send]
theorem expect_recv (w : Fin 7) : (exchange m).expect (recvCell w c) 0 = N := by
  unfold Schedule.expect Schedule.amountOf; rw [duties_recv, Finset.sum_singleton, amount_recv]

/-- The payloads of a whole round. -/
theorem rest_bar : bigSep ((exchange m).duties (barCell c) 0 \ ∅) (fun d => (exchange m).payload (barCell c) 0 d)
    = bigSep Finset.univ (barPay (F := F) c) := by
  rw [Finset.sdiff_empty, duties_bar]; rfl
theorem rest_send (w : Fin 7) : bigSep ((exchange m).duties (sendCell w c) 0 \ ∅) (fun d => (exchange m).payload (sendCell w c) 0 d)
    = sendPay m c w := by
  rw [Finset.sdiff_empty, duties_send, bigSep_singleton, payload_send]
theorem rest_recv (w : Fin 7) : bigSep ((exchange m).duties (recvCell w c) 0 \ ∅) (fun d => (exchange m).payload (recvCell w c) 0 d)
    = recvPay m c w := by
  rw [Finset.sdiff_empty, duties_recv, bigSep_singleton, payload_recv]

end Tables

/-! ## What a device owes, and the levels -/

/-- The order in which the kernel goes through the steps (less one). -/
abbrev order : List (Fin 7) := [0, 1, 3, 2, 4, 5, 6]

/-- The copies owed for the steps of a list, the head's on the outside; -/
def owedCopies (c : Dev nD) : List (Fin 7) → CellTallies nD τ sig Unit
  | [] => 0
  | w :: l => owedCopies c l + tallyAt (recvCell w (peer w.succ c)) () N
/-- the signals owed for the steps of a list besides all the copies. -/
def owedSignals (c : Dev nD) : List (Fin 7) → CellTallies nD τ sig Unit
  | [] => owedCopies c order
  | w :: l => owedSignals c l + tallyAt (barCell (peer w.succ c)) () 1
/-- At launch: all of them. -/
def O₀ (c : Dev nD) : CellTallies nD τ sig Unit := owedSignals c order

theorem owedCopies_pos {c : Dev nD} {l : List (Fin 7)} {g : GSem nD τ sig} {u : Unit} (h : 0 < owedCopies c l g u) :
    ∃ w, g = recvCell w (peer w.succ c) := by
  induction l with
  | nil => exact absurd h (Nat.lt_irrefl 0)
  | cons w l ih =>
    unfold owedCopies at h
    rw [Pi.add_apply, Finsupp.add_apply, tallyAt_apply] at h
    by_cases hg : g = recvCell w (peer w.succ c) ∧ u = ()
    · exact ⟨w, hg.1⟩
    · rw [if_neg hg, Nat.add_zero] at h; exact ih h

theorem owedSignals_pos {c : Dev nD} {l : List (Fin 7)} {g : GSem nD τ sig} {u : Unit} (h : 0 < owedSignals c l g u) :
    (∃ w, g = recvCell w (peer w.succ c)) ∨ ∃ w : Fin 7, g = barCell (peer w.succ c) := by
  induction l with
  | nil => exact Or.inl (owedCopies_pos h)
  | cons w l ih =>
    unfold owedSignals at h
    rw [Pi.add_apply, Finsupp.add_apply, tallyAt_apply] at h
    by_cases hg : g = barCell (peer w.succ c) ∧ u = ()
    · exact Or.inr ⟨w, hg.1⟩
    · rw [if_neg hg, Nat.add_zero] at h; exact ih h

def levelOf : Role → ℕ
  | .bar => 1
  | .recv _ => 2
  | _ => 0
def L (g : GSem nD τ sig) : Finset Unit := if g.1.2 = .tc then {()} else ∅
/-- Barrier cells stand at level 1, receive cells at 2, everything else at 0. -/
def lv (g : GSem nD τ sig) (_ : Unit) : ℕ := levelOf (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_recv (w : Fin 7) (c : Dev nD) (u : Unit) : lv (recvCell w c) u = 2 := congrArg levelOf (role_recv w)

/-- On a cell at level 0 a device may wait whatever it owes of the launch's debt, or owing nothing. -/
theorem mayWait_low (c : Dev nD) (q : DmaSem sig) (hq : levelOf (role (.dma q)) = 0) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedSignals_pos hg with ⟨w, rfl⟩ | ⟨w, rfl⟩ <;> exact Finset.mem_singleton_self _)
      (fun p hp => by rw [Finset.mem_singleton.mp hp]; exact le_of_eq hq)
      (fun g u hg => by
        rcases owedSignals_pos hg with ⟨w, rfl⟩ | ⟨w, rfl⟩
        · rw [lv_recv]; decide
        · exact Nat.one_pos)
  · rw [MayWait_zero]; iintro -; iempintro

/-- At its barrier wait a device owes copies only: receive cells, above its barrier cell. -/
theorem mayWait_bar (c : Dev nD) (l : List (Fin 7)) :
    (levAts L lv : sProp 𝕄) ⊢ MayWait (c : Thread nD τ) (.reg barS) () (owedCopies c l) :=
  MayOwe.of_cut (L := L) (lev := lv) 1 (fun p hp => by rw [Finset.mem_singleton.mp hp, L_tc]; exact Finset.mem_singleton_self _)
    (fun g u hg => by obtain ⟨w, rfl⟩ := owedCopies_pos hg; exact Finset.mem_singleton_self _)
    (fun p hp => by rw [Finset.mem_singleton.mp hp]; exact le_refl 1)
    (fun g u hg => by obtain ⟨w, rfl⟩ := owedCopies_pos hg; rw [lv_recv]; decide)

/-! ## The cells of a launch, and what is known of them for good -/

/-- A device's cells: its barrier, its send and its receive cells. -/
abbrev Port : Type := Unit ⊕ (Fin 7 ⊕ Fin 7)
abbrev portSem : Port → SemLoc sig
  | .inl _ => .reg barS
  | .inr (.inl w) => .dma (sendSem w)
  | .inr (.inr w) => .dma (recvSem w)
abbrev portCell (ck : Dev nD × Port) : GSem nD τ sig := ((ck.1 : Thread nD τ), portSem ck.2)
abbrev barPort : Port := .inl ()
abbrev sendPort (w : Fin 7) : Port := .inr (.inl w)
abbrev recvPort (w : Fin 7) : Port := .inr (.inr w)

/-- Every cell's invariant, under the names `K`, and that its round 0 is reached. -/
def records (K : Dev nD × Port → ℕ) : sProp 𝕄 :=
  iprop((bigSep Finset.univ fun ck : Dev nD × Port => cellInv ER (exchange m) (K ck) (portCell ck))
    ∗ bigSep Finset.univ fun ck : Dev nD × Port => reached ER (portCell ck) 0)

instance records_persistent (K : Dev nD × Port → ℕ) : BI.Persistent (records m K) := by unfold records; infer_instance

theorem inv_at (K : Dev nD × Port → ℕ) (ck : Dev nD × Port) :
    records m K ⊢ cellInv ER (exchange m) (K ck) (portCell ck) := by
  have h : (bigSep Finset.univ fun ck : Dev nD × Port => (cellInv ER (exchange m) (K ck) (portCell ck) : sProp 𝕄))
      ⊢ cellInv ER (exchange m) (K ck) (portCell ck) := bigSep_elim (Finset.mem_univ ck)
  unfold records; iintro ⟨H, -⟩
  iapply h
  iexact H
theorem reached_at (K : Dev nD × Port → ℕ) (ck : Dev nD × Port) : records m K ⊢ reached ER (portCell ck) 0 := by
  have h : (bigSep Finset.univ fun ck : Dev nD × Port => (reached ER (portCell ck) 0 : sProp 𝕄))
      ⊢ reached ER (portCell ck) 0 := bigSep_elim (Finset.mem_univ ck)
  unfold records; iintro ⟨-, H⟩
  iapply h
  iexact H

/-- What device `c` owes, whatever waits it has recorded. -/
def debt (c : Dev nD) (O : CellTallies nD τ sig Unit) : sProp 𝕄 := iprop(∃ W, owes (c : Thread nD τ) O W)

end Cert.Exchange

end
-- ==== Proof.Contents.lean ====
/-
# What the kernel's loads read and its stores leave

The values the body computes, block by block: the rows of a device's columns of `x` rounded to bf16, a receive slot as
it is read, a block of the weights as it is read off a bank, the accumulator after the steps so far, and the result's
four blocks of columns. Each is shown to be what the buffer it lies in holds, read through the view the kernel names.
-/
module

public import proofs.«01_k».proof.Proof.Schedule

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The values -/

/-- A block of rows of device `c`'s columns of `x`, as the kernel loads it; -/
def xVal (c b : Dev nD) : Vec F S512x512 .f32 := (Memref.whole cc0_stg0_0).view.readAt (Elt F) (rows b).toLoadRect (xIn m c)
/-- the block of its bf16 copy. -/
def xbVal (c b : Dev nD) : Vec F S512x512 .bf16 := (Memref.whole cc0_scratch0).view.readAt (Elt F) (rows b).toLoadRect (xBf m c)
/-- What device `c` reads off its receive slot `s`: its rows of the partner's columns; -/
def slotVal (c : Dev nD) (s : Fin 8) : Vec F S1x512x512 .bf16 :=
  fun i : S1x512x512.Idx => xBf m (peer s c) ((rows c).emb fun a => i a.succ)
/-- and off a bank with the rows of the weights at `512 b`. -/
def wVal (c b : Dev nD) : Vec F S1x512x2048 .f32 := fun i : S1x512x2048.Idx => wIn m c ((wrows b).emb fun a => i a.succ)

/-- The accumulator: the device's own block first, then the blocks of the steps of a list, the last step at the head. -/
def accAfter (c : Dev nD) : List (Fin 8) → Vec F S512x2048 .f32
  | [] => k0_pay11 (xbVal m c c) (wVal m c c)
  | s :: l => k0_pay12 (slotVal m c s) (wVal m c (peer s c)) (accAfter c l)
/-- The accumulator before the last step. -/
abbrev accLast (c : Dev nD) : Vec F S512x2048 .f32 := accAfter m c [6, 5, 3, 4, 2, 1]

/-- A block of columns of the accumulator, as the kernel loads it. -/
def colVal (f : Vec F S512x2048 .f32) (j : Fin 4) : Vec F S512x512 .f32 :=
  (Memref.whole cc0_scratch3).view.readAt (Elt F) (cols j).toLoadRect f

/-- The result's four blocks of columns: the last step added and the activation taken. -/
def outBlock (c : Dev nD) : Fin 4 → Vec F S512x512 .f32
  | 0 => k0_pay23 (slotVal m c 7) (wVal m c (peer 7 c)) (colVal (accLast m c) 0)
  | 1 => k0_pay25 (k0_pay24 (slotVal m c 7) (wVal m c (peer 7 c))) (colVal (accLast m c) 1)
  | 2 => k0_pay27 (k0_pay26 (k0_pay21 (slotVal m c 7)) (k0_pay22 (wVal m c (peer 7 c))) (colVal (accLast m c) 2))
  | 3 => k0_pay28 (k0_pay21 (slotVal m c 7)) (k0_pay22 (wVal m c (peer 7 c))) (colVal (accLast m c) 3)

/-- The column's place in its block. -/
def inBlock (i : S512x2048.Idx) : S512x512.Idx := fun a => match a with
  | ⟨0, _⟩ => ⟨(i 0).val, (i 0).isLt⟩
  | ⟨1, _⟩ => ⟨(i 1).val % 512, Nat.mod_lt _ (by decide)⟩
/-- The column's block. -/
def ofBlock (i : S512x2048.Idx) : Fin 4 := ⟨(i 1).val / 512, by have h : (i 1).val < 2048 := (i 1).isLt; omega⟩

/-- Device `c`'s block of the result. -/
def outVal (c : Dev nD) : Vec F S512x2048 .f32 := fun i => outBlock m c (ofBlock i) (inBlock i)

/-! ## They are what the buffers hold -/

section Reads
variable (c : Dev nD)

/-- The rounding of a block is the block of the rounded columns. -/
theorem rounded (b : Dev nD) : truncf (F := F) (s := S512x512) .bf16 (xVal m c b) bitsLt_bf16_f32 = xbVal m c b := rfl

theorem pay1_eq (b : Dev nD) : k0_pay1 (xVal m c b) = xbVal m c b := by
  unfold k0_pay1; dsimp only; rw [shapeCast_self, shapeCast_self]; rfl

/-- A slot's element under its squeezed view. -/
theorem slot_emb (s : Fin 8) (x : S512x512.Idx) :
    (slotM s).view.emb x = (slot s).emb (Fin.cons ⟨0, Nat.one_pos⟩ x : S1x512x512.Idx) := by
  show (slot s).emb _ = _
  exact congrArg (slot s).emb (Shape.reshapeEquiv_cons_one _ x)

theorem slot_idx_zero (s : Fin 8) (i : S1x512x512.Idx) : ((slot s).emb i : S8x512x512.Idx) 0 = s := by
  refine Fin.ext ?_
  have h : (i 0).val < 1 := (i 0).isLt
  show s.val + 1 * (i 0).val = s.val
  omega
theorem slot_idx_succ (s : Fin 8) (i : S1x512x512.Idx) :
    (fun a : Fin 2 => ((slot s).emb i : S8x512x512.Idx) a.succ : S512x512.Idx) = fun a : Fin 2 => i a.succ := by
  funext a
  refine Fin.ext ?_
  fin_cases a
  · show 0 + 1 * (i 1).val = (i 1).val; omega
  · show 0 + 1 * (i 2).val = (i 2).val; omega

/-- The receive slot `s` of device `d`, read through the copy's view, holds the rows its partner sent. -/
theorem slot_read (d : Dev nD) (s : Fin 8) :
    (slotM s).view.read (Elt F) (received m d) = xbVal m (peer s d) d := by
  funext x
  show received m d ((slotM s).view.emb x) = xBf m (peer s d) ((rows d).emb x)
  rw [slot_emb]
  unfold received
  rw [slot_idx_zero, slot_idx_succ]
  rfl

/-- The load of slot `s` reads `slotVal`. -/
theorem slot_load (s : Fin 8) :
    (Memref.whole cc0_scratch1).view.readAt (Elt F) (slot s).toLoadRect (received m c) = slotVal m c s := by
  funext i
  show received m c ((slot s).emb i) = _
  unfold received slotVal
  rw [slot_idx_zero, slot_idx_succ]

abbrev bankM (p : Fin 2) : Memref sig .tc .vmem S512x2048 .f32 :=
  ((Memref.whole cc0_scratch2).slice (bank p) (fun _ => rfl)).squeeze S512x2048 squeezes_S1x512x2048_S512x2048

theorem bank_emb (p : Fin 2) (x : S512x2048.Idx) :
    (bankM p).view.emb x = (bank p).emb (Fin.cons ⟨0, Nat.one_pos⟩ x : S1x512x2048.Idx) := by
  show (bank p).emb _ = _
  exact congrArg (bank p).emb (Shape.reshapeEquiv_cons_one _ x)

theorem bank_idx_succ (p : Fin 2) (i : S1x512x2048.Idx) :
    (fun a : Fin 2 => ((bank p).emb i : S2x512x2048.Idx) a.succ : S512x2048.Idx) = fun a : Fin 2 => i a.succ := by
  funext a
  refine Fin.ext ?_
  fin_cases a
  · show 0 + 1 * (i 1).val = (i 1).val; omega
  · show 0 + 1 * (i 2).val = (i 2).val; omega

/-- A bank with the weights' rows at `512 b`, read through the fetch's view, holds what the fetch reads; -/
theorem bank_read (b : Dev nD) (p : Fin 2) :
    (bankM p).view.read (Elt F) (banked m c b)
      = ((Memref.whole main_arg1).slice (wrows b) (fun _ => rfl)).view.read (Elt F) (wIn m c) := by
  funext x
  show banked m c b ((bankM p).view.emb x) = wIn m c ((wrows b).emb x)
  rw [bank_emb]
  unfold banked
  rw [bank_idx_succ]
  rfl

/-- and the load of the bank reads `wVal`. -/
theorem bank_load (b : Dev nD) (p : Fin 2) :
    (Memref.whole cc0_scratch2).view.readAt (Elt F) (bank p).toLoadRect (banked m c b) = wVal m c b := by
  funext i
  show banked m c b ((bank p).emb i) = _
  unfold banked wVal
  rw [bank_idx_succ]

/-- The block `j` of the result's columns is `outBlock`. -/
theorem out_read (j : Fin 4) : (Memref.whole cc0_scratch3).view.readAt (Elt F) (cols j).toLoadRect (outVal m c) = outBlock m c j := by
  funext x
  have h1 : ofBlock ((cols j).emb x : S512x2048.Idx) = j := by
    refine Fin.ext ?_
    have h : (x 1).val < 512 := (x 1).isLt
    show (512 * j.val + 1 * (x 1).val) / 512 = j.val
    omega
  have h2 : inBlock ((cols j).emb x : S512x2048.Idx) = x := by
    funext a
    refine Fin.ext ?_
    fin_cases a
    · show 0 + 1 * (x 0).val = (x 0).val; omega
    · have h : (x 1).val < 512 := (x 1).isLt
      show (512 * j.val + 1 * (x 1).val) % 512 = (x 1).val
      omega
  show outVal m c ((cols j).emb x) = _
  unfold outVal
  rw [h1, h2]

end Reads

end Cert.Exchange

end
-- ==== Proof.Steps.lean ====
/-
# The kernel's steps

One rule for each kind of memory operation in the body, stated once for every device, step and block: what must be
held before it and what is held after it. The addresses of an operation enter as they are printed, with the equation
that reads them as a partner's block.
-/
module

public import proofs.«01_k».proof.Proof.Contents

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The program `p` runs on device `c` to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The element sets of the views -/

theorem setOn_whole (b : Ref sig .tc) (I : Finset b.ty.Idx) : (View.whole b : View sig .tc _ _ _).setOn I = I := by
  ext i; simp [View.setOn]
theorem set_row (b : Dev nD) : ((Memref.whole cc0_scratch0).slice (rows b) (fun _ => rfl)).view.set = (rows b).set :=
  View.set_slice_whole _ _
theorem set_slot (s : Fin 8) : (slotM s).view.set = (slot s).set := (View.set_reshape _ _).trans (View.set_slice_whole _ _)
theorem set_bank (p : Fin 2) : (bankM p).view.set = (bank p).set := (View.set_reshape _ _).trans (View.set_slice_whole _ _)

/-! ## The barrier -/

section Protocol
variable (K : Dev nD × Port → ℕ) (c n : Dev nD) (w : Fin 7)

/-- The token and the slot that a device's signal to its partner takes. -/
def signalKit (c : Dev nD) (w : Fin 7) : sProp 𝕄 :=
  iprop(dutyTok ER (barCell (peer w.succ c)) 0 w ∗ ∃ f, slotPts c w.succ f)

/-- A signal to the partner of step `w + 1` hands it the device's slot `w + 1`. -/
theorem step_signal {α : Type} {Q : α → sProp 𝕄} {k : PUnit.{1} → Prog (TpuEff nD τ sig (Elt F) Λ₀ .tc) α}
    (l : List (Fin 7)) (hn : n = peer w.succ c) :
    iprop(records m K ∗ debt c (owedSignals c (w :: l)) ∗ signalKit c w)
      ⊢ iprop((debt c (owedSignals c l) -∗ run c (k ⟨⟩) Q)
          -∗ run c (.op (.semSignal ((n, .tc) : Thread nD τ) barS (BitVec.toInt 1#32)) k) Q) := by
  subst hn
  unfold signalKit debt
  iintro ⟨#HR, ⟨%W, HO⟩, Ht, Hs⟩ Hk
  iapply (Rounds.wp_signal 𝒱₀ ER (exchange m) (c : Thread nD τ) none (dst := (peer w.succ c : Thread nD τ)) (κ := K (peer w.succ c, barPort))
      (d := w) (k' := 1) (by rw [duties_bar]; exact Finset.mem_univ _) (amount_bar m (peer w.succ c) w) () (owedSignals c l) rfl)
    $$ [HO Ht Hs]
  · isplitr; · iapply (inv_at m K (peer w.succ c, barPort)); iexact HR
    isplitl [HO]; · iexact HO
    isplitl [Ht]; · iexact Ht
    isplitl [Hs]
    · rw [payload_bar]; unfold barPay; rw [peer_peer]; iexact Hs
    · iapply (reached_at m K (peer w.succ c, barPort)); iexact HR
  iintro HO
  iapply Hk
  iexists W; iexact HO

/-- The wait for the seven signals hands the device its partners' slots, and closes its barrier cell. -/
theorem step_barrier {α : Type} {Q : α → sProp 𝕄} {k : PUnit.{1} → Prog (TpuEff nD τ sig (Elt F) Λ₀ .tc) α} :
    iprop(records m K ∗ levAts L lv ∗ debt c (owedCopies c order) ∗ cred (tallyAt (barCell c) () 7) ∗ atPos ER (barCell c) 0 ∅ 0)
      ⊢ iprop(((debt c (owedCopies c order) ∗ semVal (barCell c) 0 ∗ bigSep Finset.univ (barPay (F := F) c)) -∗ run c (k ⟨⟩) Q)
          -∗ run c (.op (.semWait barS (BitVec.toInt 7#32)) k) Q) := by
  unfold debt
  iintro ⟨#HR, #Hlev, ⟨%W, HO⟩, Hc, Hat⟩ Hk
  iapply (Rounds.wp_wait_rest_token 𝒱₀ ER (exchange m) (c : Thread nD τ) none (κ := K (c, barPort)) (k' := 7)
      (wpE_semWait_eq 𝒱₀ (c : Thread nD τ) none Set.univ) (Set.mem_univ _) () (O := owedCopies c order) (W := W) (R := 0) (m := 0) (T := ∅)
      (by rw [expect_bar])) $$ [Hc HO Hat]
  · isplitr; · iapply (inv_at m K (c, barPort)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (exchange m) (Set.mem_univ (K (c, barPort))) (fun h => h) (R := 0 + 1) (duties_later m (barCell c))) $$ [Hat] with Hz
  · isplitr; · iapply (inv_at m K (c, barPort)); iexact HR
    iexact Hat
  iapply Hk
  isplitl [HO]; · iexists _; iexact HO
  isplitl [Hz] <;> iassumption

/-! ## The copies to the partners -/

/-- The tokens that a copy to the partner of step `w + 1` pays with. -/
def copyKit (c : Dev nD) (w : Fin 7) : sProp 𝕄 :=
  iprop(dutyTok ER (sendCell w c) 0 0 ∗ dutyTok ER (recvCell w (peer w.succ c)) 0 0)

/-- The partner's slot, written with the rows at its block, is filled as its receive cell's payload says. -/
theorem filled (fd : (cc0_scratch1 : Ref sig .tc).ty.Contents (Elt F)) :
    (((slotM w.succ).view.loc (peer w.succ c : Thread nD τ) ↦[(slotM w.succ).view.set]{fullShare}
        (slotM w.succ).view.write (Elt F) fd (xbVal m c (peer w.succ c)) Finset.univ) : sProp 𝕄)
      = slotPts (peer w.succ c) w.succ (received m (peer w.succ c)) := by
  rw [landed (peer w.succ c) (slotM w.succ).view fullShare fd (received m (peer w.succ c)) (xbVal m c (peer w.succ c))
    (by rw [slot_read, peer_peer]), set_slot]

/-- The copy of the partner's rows into its slot `w + 1`. -/
theorem step_copy {α : Type} {Q : α → sProp 𝕄} {k : PUnit.{1} → Prog (TpuEff nD τ sig (Elt F) Λ₀ .tc) α}
    (l : List (Fin 7)) (hn : n = peer w.succ c) {off : Fin 2 → ℕ} (hoff : off = rowOff (peer w.succ c))
    {inb} {soff : Fin 3 → ℕ} (hsoff : soff = ![w.succ.val, 0, 0]) {sinb} {sS rS : DmaSem sig} (hsS : sS = sendSem w) (hrS : rS = recvSem w)
    {hsc : (((Memref.whole cc0_scratch1).slice (Rect.unit (s := S8x512x512) soff S1x512x512.size sinb) (fun _ => rfl)).squeeze S512x512 squeezes_S1x512x512_S512x512
      : Memref sig (Dev.tc n : Thread nD τ).2.kind .vmem S512x512 .bf16).view.ref.isScScratch = false}
    {hsrc : ((Memref.whole cc0_scratch0).slice (Rect.unit (s := S4096x512) off S512x512.size inb) (fun _ => rfl)).view.WordExact}
    {hdst : (((Memref.whole cc0_scratch1).slice (Rect.unit (s := S8x512x512) soff S1x512x512.size sinb) (fun _ => rfl)).squeeze S512x512 squeezes_S1x512x512_S512x512).view.WordExact}
    {hsem : DmaTarget.Typed .vmem (.dma rS) (.remote (Dev.tc n : Thread nD τ) (((Memref.whole cc0_scratch1).slice (Rect.unit (s := S8x512x512) soff S1x512x512.size sinb) (fun _ => rfl)).squeeze S512x512 squeezes_S1x512x512_S512x512) (.dma sS) hsc)} :
    iprop(records m K ∗ rowPts c (peer w.succ c) (xBf m c) ∗ barPay c w ∗ debt c (owedCopies c (w :: l)) ∗ copyKit c w)
      ⊢ iprop(((cred (tallyAt (sendCell w c) () N) ∗ debt c (owedCopies c l)) -∗ run c (k ⟨⟩) Q)
          -∗ run c (.op (.enqueueDma ((Memref.whole cc0_scratch0).slice (Rect.unit (s := S4096x512) off S512x512.size inb) (fun _ => rfl))
              (.remote (Dev.tc n : Thread nD τ) (((Memref.whole cc0_scratch1).slice (Rect.unit (s := S8x512x512) soff S1x512x512.size sinb) (fun _ => rfl)).squeeze S512x512 squeezes_S1x512x512_S512x512) (.dma sS) hsc)
              (.dma rS) hsrc hdst hsem) k) Q) := by
  subst hn hoff hsoff hsS hrS
  unfold copyKit barPay debt
  iintro ⟨#HR, Hx, ⟨%fd, Hs⟩, ⟨%W, HO⟩, HtS, HtR⟩ Hk
  iapply (Rounds.wp_send_pointsTo 𝒱₀ ER (exchange m) (c : Thread nD τ) none (c' := (Dev.tc (peer w.succ c) : Thread nD τ))
    (src := (Memref.whole cc0_scratch0).slice (rows (peer w.succ c)) (fun _ => rfl)) (dst := slotM w.succ)
    (κ₁ := K (c, sendPort w)) (κ₂ := K (peer w.succ c, recvPort w))
    (r₁ := 0) (r₂ := 0) (d₁ := 0) (d₂ := 0) (fs := xBf m c) (fd := fd) (q := fullShare)
    (by rw [duties_send]; exact Finset.mem_singleton_self _) (by rw [duties_recv]; exact Finset.mem_singleton_self _)
    () () N rfl (amount_send m c w 0) (amount_recv m (peer w.succ c) w 0) (owedCopies c l) rfl (W := W)
    (by rw [payload_send]; exact Entails.of_eq (by unfold sendPay; rw [set_row]))
    (by rw [payload_recv]; exact Entails.of_eq (filled m c w fd))) $$ [Hx Hs HO HtS HtR]
  · isplitr; · iapply (inv_at m K (c, sendPort w)); iexact HR
    isplitr; · iapply (inv_at m K (peer w.succ c, recvPort w)); iexact HR
    isplitl [Hx]
    · rw [set_row]; iexact Hx
    isplitl [Hs]
    · rw [set_slot]; iexact Hs
    isplitl [HO]; · iexact HO
    isplitl [HtS]; · iexact HtS
    isplitr; · iapply (reached_at m K (c, sendPort w)); iexact HR
    isplitl [HtR]; · iexact HtR
    iapply (reached_at m K (peer w.succ c, recvPort w)); iexact HR
  iintro ⟨Hc, HO⟩
  iapply Hk
  isplitl [Hc]; · iexact Hc
  iexists W; iexact HO

/-- The wait for the partner's copy of step `w + 1`: the slot filled, the receive cell closed. -/
theorem step_recv {α : Type} {Q : α → sProp 𝕄} {k : PUnit.{1} → Prog (TpuEff nD τ sig (Elt F) Λ₀ .tc) α}
    {sp sp' : Space} {s s' : Shape} {e e' : EltTy} {rS : DmaSem sig} (hrS : rS = recvSem w)
    {src : Memref sig .tc sp' s' e'} {dst : Memref sig .tc sp s e} (hN : dst.view.dmaCredit = N) {hsrc : src.view.WordExact} {hdst : dst.view.WordExact} :
    iprop(records m K ∗ debt c 0 ∗ cred (tallyAt (recvCell w c) () N) ∗ atPos ER (recvCell w c) 0 ∅ 0)
      ⊢ iprop(((debt c 0 ∗ slotPts c w.succ (received m c) ∗ semVal (recvCell w c) 0) -∗ run c (k ⟨⟩) Q)
          -∗ run c (.op (.waitDma2 rS src dst hsrc hdst) k) Q) := by
  subst hrS
  unfold debt
  iintro ⟨#HR, ⟨%W, HO⟩, Hc, Hat⟩ Hk
  iapply (Rounds.wp_wait_rest_token 𝒱₀ ER (exchange m) (c : Thread nD τ) none (κ := K (c, recvPort w)) (k' := dst.view.dmaCredit)
      (wpE_waitDma2_eq 𝒱₀ (c : Thread nD τ) none Set.univ) (Set.mem_univ _) () (O := 0) (W := W) (R := 0) (m := 0) (T := ∅)
      (by rw [Nat.zero_add, expect_recv]; exact hN)) $$ [Hc HO Hat]
  · isplitr; · iapply (inv_at m K (c, recvPort w)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m c w)) $$ Hpay
  imod (Rounds.cell_close ER (exchange m) (Set.mem_univ (K (c, recvPort w))) (fun h => h) (R := 0 + 1) (duties_later m (recvCell w c))) $$ [Hat] with Hz
  · isplitr; · iapply (inv_at m K (c, recvPort w)); iexact HR
    iexact Hat
  iapply Hk
  isplitl [HO]; · iexists _; iexact HO
  unfold recvPay
  isplitl [Hp] <;> iassumption

/-- The wait for the device's own copy of step `w + 1`: the rows back, the send cell closed. -/
theorem step_sent {α : Type} {Q : α → sProp 𝕄} {k : PUnit.{1} → Prog (TpuEff nD τ sig (Elt F) Λ₀ .tc) α}
    {sp sp' : Space} {s s' : Shape} {e e' : EltTy} {sS : DmaSem sig} (hsS : sS = sendSem w)
    {src : Memref sig .tc sp' s' e'} {dst : Memref sig .tc sp s e} (hN : dst.view.dmaCredit = N) {hsrc : src.view.WordExact} {hdst : dst.view.WordExact} :
    iprop(records m K ∗ debt c 0 ∗ cred (tallyAt (sendCell w c) () N) ∗ atPos ER (sendCell w c) 0 ∅ 0)
      ⊢ iprop(((debt c 0 ∗ rowPts c (peer w.succ c) (xBf m c) ∗ semVal (sendCell w c) 0) -∗ run c (k ⟨⟩) Q)
          -∗ run c (.op (.waitDma2 sS src dst hsrc hdst) k) Q) := by
  subst hsS
  unfold debt
  iintro ⟨#HR, ⟨%W, HO⟩, Hc, Hat⟩ Hk
  iapply (Rounds.wp_wait_rest_token 𝒱₀ ER (exchange m) (c : Thread nD τ) none (κ := K (c, sendPort w)) (k' := dst.view.dmaCredit)
      (wpE_waitDma2_eq 𝒱₀ (c : Thread nD τ) none Set.univ) (Set.mem_univ _) () (O := 0) (W := W) (R := 0) (m := 0) (T := ∅)
      (by rw [Nat.zero_add, expect_send]; exact hN)) $$ [Hc HO Hat]
  · isplitr; · iapply (inv_at m K (c, sendPort w)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send m c w)) $$ Hpay
  imod (Rounds.cell_close ER (exchange m) (Set.mem_univ (K (c, sendPort w))) (fun h => h) (R := 0 + 1) (duties_later m (sendCell w c))) $$ [Hat] with Hz
  · isplitr; · iapply (inv_at m K (c, sendPort w)); iexact HR
    iexact Hat
  iapply Hk
  isplitl [HO]; · iexists _; iexact HO
  unfold sendPay
  isplitl [Hp] <;> iassumption

end Protocol

end Cert.Exchange

end
-- ==== Proof.Locals.lean ====
/-
# The kernel's local steps

The loads, the stores and the copies within a device, each stated once: what must be held before and what is held
after. The addresses of an operation enter as they are printed, with the equation that reads them as a block.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

/-! ## Loads and stores -/

/-- A load through a rectangle of a memref, of whose buffer elements that include the rectangle's are held. -/
theorem load_part {α : Type} {Q : α → sProp 𝕄} {cs : CoreSpace} {s : Shape} {e : EltTy} (M : Memref sig .tc (.core cs) s e) {S : Finset (Idx (M.view.loc (c : Thread nD τ)))}
    (f : Buf (Elt F) (M.view.loc (c : Thread nD τ))) {r : LoadRect s} {hl : M.view.LoadsAt r} {k : (r.shape.Idx → Elt F e) → Prog (TpuEff nD τ sig (Elt F) Λ₀ .tc) α}
    (v : r.shape.Idx → Elt F e) (hv : M.view.readAt (Elt F) r f = v) (hS : M.view.setOn r.set ⊆ S) :
    ((M.view.loc (c : Thread nD τ) ↦[S]{fullShare} f) : sProp 𝕄) ⊢ iprop(((M.view.loc (c : Thread nD τ) ↦[S]{fullShare} f) -∗ run c (k v) Q)
        -∗ run c (.op (.load M r hl) k) Q) := by
  subst hv
  exact wp_load 𝒱₀ (c : Thread nD τ) none Set.univ hS

/-- A load of a block of the device's columns of `x`. -/
theorem step_load_x {α : Type} {Q : α → sProp 𝕄} (b : Dev nD)
    {off : Fin 2 → ℕ} (hoff : off = rowOff b) {inb} {hl : ((Memref.whole cc0_stg0_0).view : View sig .tc _ _ _).LoadsAt (Rect.unit (s := S4096x512) off S512x512.size inb).toLoadRect}
    {k : Vec F S512x512 .f32 → Prog (TpuEff nD τ sig (Elt F) Λ₀ .tc) α} :
    (xPts c (xIn m c) : sProp 𝕄) ⊢ iprop((xPts c (xIn m c) -∗ run c (k (xVal m c b)) Q)
        -∗ run c (.op (.load (Memref.whole cc0_stg0_0) (Rect.unit (s := S4096x512) off S512x512.size inb).toLoadRect hl) k) Q) := by
  subst hoff
  exact load_part c (Memref.whole cc0_stg0_0) _ _ (rfl) (fun _ _ => Finset.mem_univ _)

/-- A load of a block of the bf16 copy, whose value is not used. -/
theorem step_load_rows {α : Type} {Q : α → sProp 𝕄} (b : Dev nD) (f : (cc0_scratch0 : Ref sig .tc).ty.Contents (Elt F))
    {off : Fin 2 → ℕ} (hoff : off = rowOff b) {inb} {hl : ((Memref.whole cc0_scratch0).view : View sig .tc _ _ _).LoadsAt (Rect.unit (s := S4096x512) off S512x512.size inb).toLoadRect}
    {k : Vec F S512x512 .bf16 → Prog (TpuEff nD τ sig (Elt F) Λ₀ .tc) α} :
    (rowPts c b f : sProp 𝕄) ⊢ iprop((rowPts c b f -∗ run c (k ((Memref.whole cc0_scratch0).view.readAt (Elt F) (rows b).toLoadRect f)) Q)
        -∗ run c (.op (.load (Memref.whole cc0_scratch0) (Rect.unit (s := S4096x512) off S512x512.size inb).toLoadRect hl) k) Q) := by
  subst hoff
  exact load_part c (Memref.whole cc0_scratch0) _ _ (rfl) (setOn_whole _ _).subset

/-- A load of a block of the bf16 copy, written before. -/
theorem step_load_own {α : Type} {Q : α → sProp 𝕄} (b : Dev nD)
    {off : Fin 2 → ℕ} (hoff : off = rowOff b) {inb} {hl : ((Memref.whole cc0_scratch0).view : View sig .tc _ _ _).LoadsAt (Rect.unit (s := S4096x512) off S512x512.size inb).toLoadRect}
    {k : Vec F S512x512 .bf16 → Prog (TpuEff nD τ sig (Elt F) Λ₀ .tc) α} :
    (rowPts c b (xBf m c) : sProp 𝕄) ⊢ iprop((rowPts c b (xBf m c) -∗ run c (k (xbVal m c b)) Q)
        -∗ run c (.op (.load (Memref.whole cc0_scratch0) (Rect.unit (s := S4096x512) off S512x512.size inb).toLoadRect hl) k) Q) := by
  subst hoff
  exact load_part c (Memref.whole cc0_scratch0) _ _ (rfl) (setOn_whole _ _).subset

/-- A load of a filled receive slot. -/
theorem step_load_slot {α : Type} {Q : α → sProp 𝕄} (s : Fin 8)
    {off : Fin 3 → ℕ} (hoff : off = ![s.val, 0, 0]) {inb} {hl : ((Memref.whole cc0_scratch1).view : View sig .tc _ _ _).LoadsAt (Rect.unit (s := S8x512x512) off S1x512x512.size inb).toLoadRect}
    {k : Vec F S1x512x512 .bf16 → Prog (TpuEff nD τ sig (Elt F) Λ₀ .tc) α} :
    (slotPts c s (received m c) : sProp 𝕄) ⊢ iprop((slotPts c s (received m c) -∗ run c (k (slotVal m c s)) Q)
        -∗ run c (.op (.load (Memref.whole cc0_scratch1) (Rect.unit (s := S8x512x512) off S1x512x512.size inb).toLoadRect hl) k) Q) := by
  subst hoff
  exact load_part c (Memref.whole cc0_scratch1) _ _ (slot_load m c s) (setOn_whole _ _).subset

/-- A load of a fetched bank. -/
theorem step_load_bank {α : Type} {Q : α → sProp 𝕄} (p : Fin 2) (b : Dev nD)
    {off : Fin 3 → ℕ} (hoff : off = ![p.val, 0, 0]) {inb} {hl : ((Memref.whole cc0_scratch2).view : View sig .tc _ _ _).LoadsAt (Rect.unit (s := S2x512x2048) off S1x512x2048.size inb).toLoadRect}
    {k : Vec F S1x512x2048 .f32 → Prog (TpuEff nD τ sig (Elt F) Λ₀ .tc) α} :
    (bankPts c p (banked m c b) : sProp 𝕄) ⊢ iprop((bankPts c p (banked m c b) -∗ run c (k (wVal m c b)) Q)
        -∗ run c (.op (.load (Memref.whole cc0_scratch2) (Rect.unit (s := S2x512x2048) off S1x512x2048.size inb).toLoadRect hl) k) Q) := by
  subst hoff
  exact load_part c (Memref.whole cc0_scratch2) _ _ (bank_load m c b p) (setOn_whole _ _).subset

/-- A load of a block of columns of the accumulator. -/
theorem step_load_col {α : Type} {Q : α → sProp 𝕄} (j : Fin 4) (f : (cc0_scratch3 : Ref sig .tc).ty.Contents (Elt F))
    {off : Fin 2 → ℕ} (hoff : off = ![0, 512 * j.val]) {inb} {hl : ((Memref.whole cc0_scratch3).view : View sig .tc _ _ _).LoadsAt (Rect.unit (s := S512x2048) off S512x512.size inb).toLoadRect}
    {k : Vec F S512x512 .f32 → Prog (TpuEff nD τ sig (Elt F) Λ₀ .tc) α} :
    (colPts c j f : sProp 𝕄) ⊢ iprop((colPts c j f -∗ run c (k (colVal f j)) Q)
        -∗ run c (.op (.load (Memref.whole cc0_scratch3) (Rect.unit (s := S512x2048) off S512x512.size inb).toLoadRect hl) k) Q) := by
  subst hoff
  exact load_part c (Memref.whole cc0_scratch3) _ _ (rfl) (setOn_whole _ _).subset

/-- A load of the whole accumulator. -/
theorem step_load_acc {α : Type} {Q : α → sProp 𝕄} (f : (cc0_scratch3 : Ref sig .tc).ty.Contents (Elt F))
    {off : Fin 2 → ℕ} (hoff : off = ![0, 0]) {inb} {hl : ((Memref.whole cc0_scratch3).view : View sig .tc _ _ _).LoadsAt (Rect.unit (s := S512x2048) off S512x2048.size inb).toLoadRect}
    {k : Vec F S512x2048 .f32 → Prog (TpuEff nD τ sig (Elt F) Λ₀ .tc) α} :
    (accPts c f : sProp 𝕄) ⊢ iprop((accPts c f -∗ run c (k f) Q)
        -∗ run c (.op (.load (Memref.whole cc0_scratch3) (Rect.unit (s := S512x2048) off S512x2048.size inb).toLoadRect hl) k) Q) := by
  subst hoff
  have hz : (![0, 0] : Fin 2 → ℕ) = fun _ => 0 := by funext a; fin_cases a <;> rfl
  have hv : (Memref.whole cc0_scratch3).view.readAt (Elt F) (Rect.unit (s := S512x2048) ![0, 0] S512x2048.size inb).toLoadRect f = f :=
    Memref.readAt_unit_zero (Elt F) cc0_scratch3 hz _ f
  exact load_part c (Memref.whole cc0_scratch3) f (r := (Rect.unit (s := S512x2048) ![0, 0] S512x2048.size inb).toLoadRect) f hv (fun _ _ => Finset.mem_univ _)

/-- A store of a block's rounded rows into the bf16 copy. -/
theorem step_store_rows {α : Type} {Q : α → sProp 𝕄} (b : Dev nD) (f : (cc0_scratch0 : Ref sig .tc).ty.Contents (Elt F))
    {off : Fin 2 → ℕ} (hoff : off = rowOff b) {inb} (w : Vec F S512x512 .bf16) (hw : w = xbVal m c b)
    {hx : ((Memref.whole cc0_scratch0 : Memref sig .tc _ _ _).access (Rect.unit (s := S4096x512) off S512x512.size inb)).Stores Finset.univ} {hm}
    {k : PUnit.{1} → Prog (TpuEff nD τ sig (Elt F) Λ₀ .tc) α} :
    (rowPts c b f : sProp 𝕄) ⊢ iprop((rowPts c b (xBf m c) -∗ run c (k ⟨⟩) Q)
        -∗ run c (.op (.store (Memref.whole cc0_scratch0) (Rect.unit (s := S4096x512) off S512x512.size inb) w Finset.univ hx hm) k) Q) := by
  subst hoff
  have hs : ((Memref.whole cc0_scratch0 : Memref sig .tc _ _ _).access (rows b)).set = (rows b).set := View.set_slice_whole _ _
  have he := landed c ((Memref.whole cc0_scratch0 : Memref sig .tc _ _ _).access (rows b)) fullShare f (xBf m c) w (hw.trans rfl)
  rw [hs] at he
  iintro Ha Hk
  iapply (wp_store 𝒱₀ (c : Thread nD τ) none Set.univ (m := Memref.whole cc0_scratch0) (r := rows b)
    (w := w) (Mk := Finset.univ) (f := f) (S := (rows b).set) hs.subset) $$ Ha
  iintro Ha
  iapply Hk
  iapply (Entails.of_eq he) $$ Ha

/-- A store of a block of the result's columns over the accumulator's. -/
theorem step_store_col {α : Type} {Q : α → sProp 𝕄} (j : Fin 4) (f : (cc0_scratch3 : Ref sig .tc).ty.Contents (Elt F))
    {off : Fin 2 → ℕ} (hoff : off = ![0, 512 * j.val]) {inb} (w : Vec F S512x512 .f32) (hw : w = outBlock m c j)
    {hx : ((Memref.whole cc0_scratch3 : Memref sig .tc _ _ _).access (Rect.unit (s := S512x2048) off S512x512.size inb)).Stores Finset.univ} {hm}
    {k : PUnit.{1} → Prog (TpuEff nD τ sig (Elt F) Λ₀ .tc) α} :
    (colPts c j f : sProp 𝕄) ⊢ iprop((colPts c j (outVal m c) -∗ run c (k ⟨⟩) Q)
        -∗ run c (.op (.store (Memref.whole cc0_scratch3) (Rect.unit (s := S512x2048) off S512x512.size inb) w Finset.univ hx hm) k) Q) := by
  subst hoff
  have hs : ((Memref.whole cc0_scratch3 : Memref sig .tc _ _ _).access (cols j)).set = (cols j).set := View.set_slice_whole _ _
  have he := landed c ((Memref.whole cc0_scratch3 : Memref sig .tc _ _ _).access (cols j)) fullShare f (outVal m c) w
    (hw.trans (out_read m c j).symm)
  rw [hs] at he
  iintro Ha Hk
  iapply (wp_store 𝒱₀ (c : Thread nD τ) none Set.univ (m := Memref.whole cc0_scratch3) (r := cols j)
    (w := w) (Mk := Finset.univ) (f := f) (S := (cols j).set) hs.subset) $$ Ha
  iintro Ha
  iapply Hk
  iapply (Entails.of_eq he) $$ Ha

/-- A store over the whole accumulator. -/
theorem step_store_acc {α : Type} {Q : α → sProp 𝕄} (f : (cc0_scratch3 : Ref sig .tc).ty.Contents (Elt F))
    {off : Fin 2 → ℕ} (hoff : off = ![0, 0]) {inb} (w : Vec F S512x2048 .f32)
    {hx : ((Memref.whole cc0_scratch3 : Memref sig .tc _ _ _).access (Rect.unit (s := S512x2048) off S512x2048.size inb)).Stores Finset.univ} {hm}
    {k : PUnit.{1} → Prog (TpuEff nD τ sig (Elt F) Λ₀ .tc) α} :
    (accPts c f : sProp 𝕄) ⊢ iprop((accPts c w -∗ run c (k ⟨⟩) Q)
        -∗ run c (.op (.store (Memref.whole cc0_scratch3) (Rect.unit (s := S512x2048) off S512x2048.size inb) w Finset.univ hx hm) k) Q) := by
  subst hoff
  have hz : (![0, 0] : Fin 2 → ℕ) = fun _ => 0 := by funext a; fin_cases a <;> rfl
  have hv : ((Memref.whole cc0_scratch3 : Memref sig .tc _ _ _).access (Rect.unit (s := S512x2048) ![0, 0] S512x2048.size inb)).write (Elt F) f w Finset.univ = w :=
    Memref.write_access_unit_zero_univ (Elt F) cc0_scratch3 hz inb f w
  iintro Ha Hk
  iapply (wp_store 𝒱₀ (c : Thread nD τ) none Set.univ (m := Memref.whole cc0_scratch3) (r := Rect.unit (s := S512x2048) ![0, 0] S512x2048.size inb)
    (w := w) (Mk := Finset.univ) (f := f) (S := Finset.univ) (fun _ _ => Finset.mem_univ _)) $$ Ha
  iintro Ha
  iapply Hk
  rw [hv]
  iexact Ha

/-! ## The fetches of the weights -/

/-- What a fetch credits. -/
def NW : ℕ := (bankM 0).view.dmaCredit
theorem NW_pos : 0 < NW := by decide
theorem amount_bank (p : Fin 2) : (bankM p).view.amount (.dma (bankSem p)) = NW := by revert p; decide
theorem set_wrow (b : Dev nD) : ((Memref.whole main_arg1 : Memref sig .tc _ _ _).slice (wrows b) (fun _ => rfl)).view.set = (wrows b).set :=
  View.set_slice_whole _ _

/-- The rows of the weights at `512 b` on their way into bank `p`. -/
def fetching (c : Dev nD) (p : Fin 2) (b : Dev nD) : sProp 𝕄 :=
  Transfers.Flight EC (c : Thread nD τ) (.dma (bankSem p)) () NW iprop(bankPts c p (banked m c b) ∗ wrowPts c b (wIn m c))

/-- The start of a fetch. -/
theorem step_fetch {α : Type} {Q : α → sProp 𝕄} (p : Fin 2) (b : Dev nD) (f : (cc0_scratch2 : Ref sig .tc).ty.Contents (Elt F))
    {off : Fin 2 → ℕ} (hoff : off = rowOff b) {inb} {soff : Fin 3 → ℕ} (hsoff : soff = ![p.val, 0, 0]) {sinb} {wS : DmaSem sig} (hwS : wS = bankSem p)
    {hsrc : ((Memref.whole main_arg1 : Memref sig .tc _ _ _).slice (Rect.unit (s := S4096x2048) off S512x2048.size inb) (fun _ => rfl)).view.WordExact}
    {hdst : (((Memref.whole cc0_scratch2 : Memref sig .tc _ _ _).slice (Rect.unit (s := S2x512x2048) soff S1x512x2048.size sinb) (fun _ => rfl)).squeeze S512x2048 squeezes_S1x512x2048_S512x2048).view.WordExact}
    {hsem} {k : PUnit.{1} → Prog (TpuEff nD τ sig (Elt F) Λ₀ .tc) α} :
    iprop(wrowPts c b (wIn m c) ∗ bankPts c p f ∗ semVal ((c : Thread nD τ), .dma (bankSem p)) 0)
      ⊢ iprop((fetching m c p b -∗ run c (k ⟨⟩) Q)
          -∗ run c (.op (.enqueueDma ((Memref.whole main_arg1).slice (Rect.unit (s := S4096x2048) off S512x2048.size inb) (fun _ => rfl))
              (.here (((Memref.whole cc0_scratch2).slice (Rect.unit (s := S2x512x2048) soff S1x512x2048.size sinb) (fun _ => rfl)).squeeze S512x2048 squeezes_S1x512x2048_S512x2048))
              (.dma wS) hsrc hdst hsem) k) Q) := by
  subst hoff hsoff hwS
  unfold fetching
  iintro ⟨Hw, Hb, Hs⟩ Hk
  iapply (Transfers.wp_dmaLocal EC 𝒱₀ (c : Thread nD τ) none (src := (Memref.whole main_arg1).slice (wrows b) (fun _ => rfl)) (dst := bankM p)
    (sm := .dma (bankSem p)) (q := fullShare) (fs := wIn m c) (Sd := (bank p).set) (fd := f) () NW (amount_bank p) NW_pos (set_bank p).subset)
    $$ [Hw Hb Hs]
  · isplitl [Hw]; · rw [set_wrow]; iexact Hw
    isplitl [Hb] <;> iassumption
  iintro Hf
  iapply Hk
  iapply (Transfers.Flight_mono EC (c : Thread nD τ) (D := iprop(((bankM p).view.loc (c : Thread nD τ) ↦[(bank p).set]{fullShare}
      (bankM p).view.write (Elt F) f (((Memref.whole main_arg1).slice (wrows b) (fun _ => rfl)).view.read (Elt F) (wIn m c)) Finset.univ)
    ∗ (((Memref.whole main_arg1).slice (wrows b) (fun _ => rfl)).view.loc (c : Thread nD τ)
        ↦[((Memref.whole main_arg1).slice (wrows b) (fun _ => rfl)).view.set]{fullShare} wIn m c))) ?_) $$ Hf
  have he := landed c (bankM p).view fullShare f (banked m c b) _ (bank_read m c b p).symm
  rw [set_bank] at he
  rw [set_wrow, he]

/-- The wait for a fetch. -/
theorem step_fetched {α : Type} {Q : α → sProp 𝕄} (p : Fin 2) (b : Dev nD) {wS : DmaSem sig} (hwS : wS = bankSem p) {sp sp' : Space} {s s' : Shape} {e e' : EltTy}
    {src : Memref sig .tc sp' s' e'} {dst : Memref sig .tc sp s e} (hN : dst.view.dmaCredit = NW) {hsrc : src.view.WordExact} {hdst : dst.view.WordExact} {k : PUnit.{1} → Prog (TpuEff nD τ sig (Elt F) Λ₀ .tc) α} :
    iprop(fetching m c p b ∗ debt c 0)
      ⊢ iprop(((bankPts c p (banked m c b) ∗ wrowPts c b (wIn m c) ∗ semVal ((c : Thread nD τ), .dma (bankSem p)) 0 ∗ debt c 0) -∗ run c (k ⟨⟩) Q)
          -∗ run c (.op (.waitDma2 wS src dst hsrc hdst) k) Q) := by
  subst hwS
  unfold fetching debt
  iintro ⟨Hf, ⟨%W, HO⟩⟩ Hk
  iapply (Transfers.wp_waitLocal EC 𝒱₀ (c : Thread nD τ) none () hN) $$ [Hf HO]
  · isplitl [Hf] <;> iassumption
  iintro ⟨⟨Hb, Hw⟩, Hs, HO⟩
  iapply Hk
  isplitl [Hb]; · iexact Hb
  isplitl [Hw]; · iexact Hw
  isplitl [Hs]; · iexact Hs
  iexists _; iexact HO

/-! ## The copies of the result -/

/-- What the copy of a block of columns credits. -/
def NO : ℕ := ((Memref.whole main_v1 : Memref sig .tc _ _ _).slice (cols 0) (fun _ => rfl)).view.dmaCredit
theorem NO_pos : 0 < NO := by decide
theorem amount_out (j : Fin 4) : ((Memref.whole main_v1 : Memref sig .tc _ _ _).slice (cols j) (fun _ => rfl)).view.amount (.dma (outSem j)) = NO := by
  revert j; decide
theorem set_col (j : Fin 4) : ((Memref.whole cc0_scratch3 : Memref sig .tc _ _ _).slice (cols j) (fun _ => rfl)).view.set = (cols j).set :=
  View.set_slice_whole _ _
theorem set_out (j : Fin 4) : ((Memref.whole main_v1 : Memref sig .tc _ _ _).slice (cols j) (fun _ => rfl)).view.set = (cols j).set :=
  View.set_slice_whole _ _

/-- A block of columns on its way from the accumulator's buffer to the result. -/
def writing (c : Dev nD) (j : Fin 4) : sProp 𝕄 :=
  Transfers.Flight EC (c : Thread nD τ) (.dma (outSem j)) () NO iprop(outPts c j (outVal m c) ∗ colPts c j (outVal m c))

/-- The start of such a copy. -/
theorem step_write {α : Type} {Q : α → sProp 𝕄} (j : Fin 4) (f : (main_v1 : Ref sig .tc).ty.Contents (Elt F))
    {off : Fin 2 → ℕ} (hoff : off = ![0, 512 * j.val]) {inb inb'} {oS : DmaSem sig} (hoS : oS = outSem j)
    {hsrc : ((Memref.whole cc0_scratch3 : Memref sig .tc _ _ _).slice (Rect.unit (s := S512x2048) off S512x512.size inb) (fun _ => rfl)).view.WordExact}
    {hdst : ((Memref.whole main_v1 : Memref sig .tc _ _ _).slice (Rect.unit (s := S512x2048) off S512x512.size inb') (fun _ => rfl)).view.WordExact}
    {hsem} {k : PUnit.{1} → Prog (TpuEff nD τ sig (Elt F) Λ₀ .tc) α} :
    iprop(colPts c j (outVal m c) ∗ outPts c j f ∗ semVal ((c : Thread nD τ), .dma (outSem j)) 0)
      ⊢ iprop((writing m c j -∗ run c (k ⟨⟩) Q)
          -∗ run c (.op (.enqueueDma ((Memref.whole cc0_scratch3).slice (Rect.unit (s := S512x2048) off S512x512.size inb) (fun _ => rfl))
              (.here ((Memref.whole main_v1).slice (Rect.unit (s := S512x2048) off S512x512.size inb') (fun _ => rfl)))
              (.dma oS) hsrc hdst hsem) k) Q) := by
  subst hoff hoS
  unfold writing
  iintro ⟨Hc, Ho, Hs⟩ Hk
  iapply (Transfers.wp_dmaLocal EC 𝒱₀ (c : Thread nD τ) none (src := (Memref.whole cc0_scratch3).slice (cols j) (fun _ => rfl))
    (dst := (Memref.whole main_v1).slice (cols j) (fun _ => rfl))
    (sm := .dma (outSem j)) (q := fullShare) (fs := outVal m c) (Sd := (cols j).set) (fd := f) () NO (amount_out j) NO_pos (set_out j).subset)
    $$ [Hc Ho Hs]
  · isplitl [Hc]; · rw [set_col]; iexact Hc
    isplitl [Ho] <;> iassumption
  iintro Hf
  iapply Hk
  iapply (Transfers.Flight_mono EC (c : Thread nD τ) (D := iprop((((Memref.whole main_v1).slice (cols j) (fun _ => rfl)).view.loc (c : Thread nD τ) ↦[(cols j).set]{fullShare}
      ((Memref.whole main_v1).slice (cols j) (fun _ => rfl)).view.write (Elt F) f (((Memref.whole cc0_scratch3).slice (cols j) (fun _ => rfl)).view.read (Elt F) (outVal m c)) Finset.univ)
    ∗ (((Memref.whole cc0_scratch3).slice (cols j) (fun _ => rfl)).view.loc (c : Thread nD τ)
        ↦[((Memref.whole cc0_scratch3).slice (cols j) (fun _ => rfl)).view.set]{fullShare} outVal m c))) ?_) $$ Hf
  have he := landed c ((Memref.whole main_v1 : Memref sig .tc _ _ _).slice (cols j) (fun _ => rfl)).view fullShare f (outVal m c)
    (((Memref.whole cc0_scratch3 : Memref sig .tc _ _ _).slice (cols j) (fun _ => rfl)).view.read (Elt F) (outVal m c)) rfl
  rw [set_out] at he
  rw [set_col, he]

/-- The wait for such a copy. -/
theorem step_written {α : Type} {Q : α → sProp 𝕄} (j : Fin 4) {oS : DmaSem sig} (hoS : oS = outSem j) {sp sp' : Space} {s s' : Shape} {e e' : EltTy}
    {src : Memref sig .tc sp' s' e'} {dst : Memref sig .tc sp s e} (hN : dst.view.dmaCredit = NO) {hsrc : src.view.WordExact} {hdst : dst.view.WordExact} {k : PUnit.{1} → Prog (TpuEff nD τ sig (Elt F) Λ₀ .tc) α} :
    iprop(writing m c j ∗ debt c 0)
      ⊢ iprop(((outPts c j (outVal m c) ∗ colPts c j (outVal m c) ∗ semVal ((c : Thread nD τ), .dma (outSem j)) 0 ∗ debt c 0) -∗ run c (k ⟨⟩) Q)
          -∗ run c (.op (.waitDma2 oS src dst hsrc hdst) k) Q) := by
  subst hoS
  unfold writing debt
  iintro ⟨Hf, ⟨%W, HO⟩⟩ Hk
  iapply (Transfers.wp_waitLocal EC 𝒱₀ (c : Thread nD τ) none () hN) $$ [Hf HO]
  · isplitl [Hf] <;> iassumption
  iintro ⟨⟨Hb, Hw⟩, Hs, HO⟩
  iapply Hk
  isplitl [Hb]; · iexact Hb
  isplitl [Hw]; · iexact Hw
  isplitl [Hs]; · iexact Hs
  iexists _; iexact HO

end Cert.Exchange

end
-- ==== Proof.Sending.lean ====
/-
# The body up to the last copy to a partner

The printed body is a chain of parts. For each part: what it takes and what it leaves. Here the signals, the
barrier, the rows staged and sent, and the first product.
-/
module

public import proofs.«01_k».proof.Proof.Locals

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

/-- The partner of step `w + 1`. -/
abbrev nbr (c : Dev nD) (w : Fin 7) : Dev nD := peer w.succ c

/-- The barrier's semaphore, as the parts pass it on. -/
abbrev barArr : Sems sig S_ := SemArray.scalar (sig.barrier 0 rfl)

/-- The rows that step `w + 1` sends, as the waits for the send name them. -/
abbrev sentM (c : Dev nD) (w : Fin 7) : Memref sig .tc .vmem S512x512 .bf16 :=
  (Memref.whole cc0_scratch0 : Memref sig .tc _ _ _).slice
    (Rect.unit (s := S4096x512) (k0_off4 c (stepWord w)) S512x512.size (k0_off4_inb c w)) (fun _ => rfl)

/-- A block of columns of the result, as the waits for its copy name it. -/
abbrev outM (j : Fin 4) : Memref sig .tc .hbm S512x512 .f32 :=
  (Memref.whole main_v1 : Memref sig .tc _ _ _).slice (cols j) (fun _ => rfl)

/-- A program that has ended. -/
theorem run_ret {α : Type} (a : α) (Ψ : α → sProp 𝕄) : Ψ a ⊢ run c (Prog.ret a) Ψ := by
  unfold run
  rw [wp_ret]
  iintro H
  imodintro
  iexact H

/-- The device's own number. -/
theorem step_device {α : Type} {Q : α → sProp 𝕄} {k : Dev nD → Prog (TpuEff nD τ sig (Elt F) Λ₀ .tc) α} :
    run c (k c) Q ⊢ run c (.op .deviceId k) Q := by
  unfold run
  rw [wp_deviceId]

/-- A block of rows staged: loaded, rounded and stored. -/
theorem step_stage {α : Type} {Q : α → sProp 𝕄} (b : Dev nD) (f : (cc0_scratch0 : Ref sig .tc).ty.Contents (Elt F))
    {off : Fin 2 → ℕ} (hoff : off = rowOff b) {inb} {pay : Vec F S512x512 .f32 → Vec F S512x512 .bf16} (hpay : pay (xVal m c b) = xbVal m c b)
    {hl hl'} {hx : ((Memref.whole cc0_scratch0 : Memref sig .tc _ _ _).access (Rect.unit (s := S4096x512) off S512x512.size inb)).Stores Finset.univ} {hm}
    {k : PUnit.{1} → Prog (TpuEff nD τ sig (Elt F) Λ₀ .tc) α} :
    iprop(xPts c (xIn m c) ∗ rowPts c b f)
      ⊢ iprop(((xPts c (xIn m c) ∗ rowPts c b (xBf m c)) -∗ run c (k ⟨⟩) Q)
        -∗ run c (.op (.load (Memref.whole cc0_stg0_0) (Rect.unit (s := S4096x512) off S512x512.size inb).toLoadRect hl) fun v =>
            .op (.load (Memref.whole cc0_scratch0) (Rect.unit (s := S4096x512) off S512x512.size inb).toLoadRect hl') fun _ =>
            .op (.store (Memref.whole cc0_scratch0) (Rect.unit (s := S4096x512) off S512x512.size inb) (pay v) Finset.univ hx hm) k) Q) := by
  iintro ⟨Hx, Hr⟩ Hk
  iapply (step_load_x m c b hoff) $$ Hx
  iintro Hx
  iapply (step_load_rows c b f hoff) $$ Hr
  iintro Hr
  iapply (step_store_rows m c b f hoff _ hpay) $$ Hr
  iintro Hr
  iapply Hk
  iframe

/-- A step's product added to the accumulator. -/
theorem step_add {α : Type} {Q : α → sProp 𝕄} (w : Fin 7) (p : Fin 2) (a b : Vec F S512x2048 .f32)
    (hab : k0_pay12 (slotVal m c w.succ) (wVal m c (nbr c w)) a = b)
    {soff : Fin 3 → ℕ} (hs : soff = ![w.succ.val, 0, 0]) {sinb} {boff : Fin 3 → ℕ} (hb : boff = ![p.val, 0, 0]) {binb}
    {off : Fin 2 → ℕ} (hoff : off = ![0, 0]) {inb} {pay : Vec F S1x512x512 .bf16 → Vec F S1x512x2048 .f32 → Vec F S512x2048 .f32 → Vec F S512x2048 .f32}
    (hpay : pay = k0_pay12) {hl hl' hl₂ hl₃}
    {hx : ((Memref.whole cc0_scratch3 : Memref sig .tc _ _ _).access (Rect.unit (s := S512x2048) off S512x2048.size inb)).Stores Finset.univ} {hm}
    {k : PUnit.{1} → Prog (TpuEff nD τ sig (Elt F) Λ₀ .tc) α} :
    iprop(slotPts c w.succ (received m c) ∗ bankPts c p (banked m c (nbr c w)) ∗ accPts c a)
      ⊢ iprop(((slotPts c w.succ (received m c) ∗ bankPts c p (banked m c (nbr c w)) ∗ accPts c b)
          -∗ run c (k ⟨⟩) Q)
        -∗ run c (.op (.load (Memref.whole cc0_scratch1) (Rect.unit (s := S8x512x512) soff S1x512x512.size sinb).toLoadRect hl) fun x =>
            .op (.load (Memref.whole cc0_scratch2) (Rect.unit (s := S2x512x2048) boff S1x512x2048.size binb).toLoadRect hl') fun v =>
            .op (.load (Memref.whole cc0_scratch3) (Rect.unit (s := S512x2048) off S512x2048.size inb).toLoadRect hl₂) fun a =>
            .op (.load (Memref.whole cc0_scratch3) (Rect.unit (s := S512x2048) off S512x2048.size inb).toLoadRect hl₃) fun _ =>
            .op (.store (Memref.whole cc0_scratch3) (Rect.unit (s := S512x2048) off S512x2048.size inb) (pay x v a) Finset.univ hx hm) k) Q) := by
  subst hpay hab
  iintro ⟨Hs, Hb, Ha⟩ Hk
  iapply (step_load_slot m c w.succ hs) $$ Hs
  iintro Hs
  iapply (step_load_bank m c p (nbr c w) hb) $$ Hb
  iintro Hb
  iapply (step_load_acc c a hoff) $$ Ha
  iintro Ha
  iapply (step_load_acc c a hoff) $$ Ha
  iintro Ha
  iapply (step_store_acc c a hoff _) $$ Ha
  iintro Ha
  iapply Hk
  iframe

/-- Two signals. -/
theorem part1 (K : Dev nD × Port → ℕ) {Ψ : _ → sProp 𝕄} :
    iprop(records m K ∗ debt c (owedSignals c [0, 1, 3, 2, 4, 5, 6]) ∗ signalKit c 0 ∗ signalKit c 1)
      ⊢ iprop((∀ (v2 v30 v31 : BitVec 32), (debt c (owedSignals c [3, 2, 4, 5, 6])) -∗ Ψ ⟨c, v2, barArr, v30, v31, 1#32⟩)
        -∗ run c (k0_part1 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7) Ψ) := by
  rw [k0_part1_eq_skeleton]; unfold k0_part1_skel
  simp only [semSignalWord, semWaitWord, Prog.lift, Prog.bind_op, Prog.bind_ret, Prog.pure_eq_ret]
  iintro ⟨#HR, HO, Hg0, Hg1⟩ Hk
  iapply (step_device c)
  iapply (step_signal m K c _ 0 _ (signal1 c)) $$ [HO Hg0]
  · iframe HR HO Hg0
  iintro HO
  iapply (step_signal m K c _ 1 _ (signal2 c)) $$ [HO Hg1]
  · iframe HR HO Hg1
  iintro HO
  iapply run_ret
  iapply Hk
  iframe

/-- Two signals. -/
theorem part2 (K : Dev nD × Port → ℕ) (v2 v30 v31 w : BitVec 32) {Ψ : _ → sProp 𝕄} :
    iprop(records m K ∗ debt c (owedSignals c [3, 2, 4, 5, 6]) ∗ signalKit c 3 ∗ signalKit c 2)
      ⊢ iprop((∀ (v63 v65 : BitVec 32), (debt c (owedSignals c [4, 5, 6])) -∗ Ψ ⟨v63, v65⟩)
        -∗ run c (k0_part2 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2 barArr v30 v31 w) Ψ) := by
  rw [k0_part2_eq_skeleton]; unfold k0_part2_skel
  simp only [semSignalWord, semWaitWord, Prog.lift, Prog.bind_op, Prog.bind_ret, Prog.pure_eq_ret]
  iintro ⟨#HR, HO, Hg3, Hg2⟩ Hk
  iapply (step_signal m K c _ 3 _ (signal3 c)) $$ [HO Hg3]
  · iframe HR HO Hg3
  iintro HO
  iapply (step_signal m K c _ 2 _ (signal4 c)) $$ [HO Hg2]
  · iframe HR HO Hg2
  iintro HO
  iapply run_ret
  iapply Hk
  iframe

/-- The last three signals. -/
theorem part3 (K : Dev nD × Port → ℕ) (v2 v63 v65 : BitVec 32) {Ψ : _ → sProp 𝕄} :
    iprop(records m K ∗ debt c (owedSignals c [4, 5, 6]) ∗ signalKit c 4 ∗ signalKit c 5 ∗ signalKit c 6)
      ⊢ iprop(((debt c (owedSignals c [])) -∗ Ψ ⟨⟩)
        -∗ run c (k0_part3 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2 barArr v63 v65) Ψ) := by
  rw [k0_part3_eq_skeleton]; unfold k0_part3_skel
  simp only [semSignalWord, semWaitWord, Prog.lift, Prog.bind_op, Prog.bind_ret, Prog.pure_eq_ret]
  iintro ⟨#HR, HO, Hg4, Hg5, Hg6⟩ Hk
  iapply (step_signal m K c _ 4 _ (signal5 c)) $$ [HO Hg4]
  · iframe HR HO Hg4
  iintro HO
  iapply (step_signal m K c _ 5 _ (signal6 c)) $$ [HO Hg5]
  · iframe HR HO Hg5
  iintro HO
  iapply (step_signal m K c _ 6 _ (signal7 c)) $$ [HO Hg6]
  · iframe HR HO Hg6
  iintro HO
  iapply run_ret
  iapply Hk
  iframe

/-- The first two fetches and the wait for the seven signals. -/
theorem part4 (K : Dev nD × Port → ℕ) (v2 : BitVec 32) (f₀ f₁ : (cc0_scratch2 : Ref sig .tc).ty.Contents (Elt F)) {Ψ : _ → sProp 𝕄} :
    iprop(records m K ∗ levAts L lv ∗ wrowPts c c (wIn m c) ∗ bankPts c 0 f₀ ∗ semVal ((c : Thread nD τ), .dma (bankSem 0)) 0 ∗
        wrowPts c (nbr c 0) (wIn m c) ∗ bankPts c 1 f₁ ∗ semVal ((c : Thread nD τ), .dma (bankSem 1)) 0 ∗ debt c (owedCopies c order) ∗
        cred (tallyAt (barCell c) () 7) ∗ atPos ER (barCell c) 0 ∅ 0)
      ⊢ iprop((∀ (v128 : BitVec 32), (fetching m c 0 c ∗ fetching m c 1 (nbr c 0) ∗ debt c (owedCopies c order) ∗ semVal (barCell c) 0 ∗ bigSep Finset.univ (barPay (F := F) c)) -∗ Ψ v128)
        -∗ run c (k0_part4 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2 barArr) Ψ) := by
  rw [k0_part4_eq_skeleton]; unfold k0_part4_skel
  simp only [semSignalWord, semWaitWord, Prog.lift, Prog.bind_op, Prog.bind_ret, Prog.pure_eq_ret]
  iintro ⟨#HR, #Hlev, HwC, Hk0, Hm0, Hw0, Hk1, Hm1, HO, Hcb, Hab⟩ Hk
  iapply (step_fetch m c 0 c f₀ (k0_off1_eq c) rfl rfl) $$ [HwC Hk0 Hm0]
  · iframe HwC Hk0 Hm0
  iintro Hf0
  iapply (step_fetch m c 1 (nbr c 0) f₁ (fetch_off c 0) rfl rfl) $$ [Hw0 Hk1 Hm1]
  · iframe Hw0 Hk1 Hm1
  iintro Hf1
  iapply (step_barrier m K c) $$ [HO Hcb Hab]
  · iframe HR Hlev HO Hcb Hab
  iintro ⟨HO, Hzb, Hb⟩
  iapply run_ret
  iapply Hk
  iframe

/-- Step 1's rows staged and copied; step 2's rows loaded. -/
theorem part5 (K : Dev nD × Port → ℕ) (v2 v128 : BitVec 32) (f : (cc0_scratch0 : Ref sig .tc).ty.Contents (Elt F)) {Ψ : _ → sProp 𝕄} :
    iprop(records m K ∗ xPts c (xIn m c) ∗ rowPts c (nbr c 0) f ∗ debt c (owedCopies c [0, 1, 3, 2, 4, 5, 6]) ∗ barPay c 0 ∗ copyKit c 0 ∗
        rowPts c (nbr c 1) f)
      ⊢ iprop((∀ (v157 : BitVec 32), (cred (tallyAt (sendCell 0 c) () N) ∗ debt c (owedCopies c [1, 3, 2, 4, 5, 6]) ∗ xPts c (xIn m c) ∗ rowPts c (nbr c 1) f) -∗ Ψ ⟨v157, k0_pay2 (xVal m c (nbr c 1))⟩)
        -∗ run c (k0_part5 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2 v128) Ψ) := by
  rw [k0_part5_eq_skeleton]; unfold k0_part5_skel
  simp only [semSignalWord, semWaitWord, Prog.lift, Prog.bind_op, Prog.bind_ret, Prog.pure_eq_ret]
  iintro ⟨#HR, Hx, Hr0, HO, Hb0, Ht0, Hr1⟩ Hk
  iapply (step_stage m c (nbr c 0) f (stage_off c 0) (pay1_eq m c _)) $$ [Hx Hr0]
  · iframe Hx Hr0
  iintro ⟨Hx, Hr0⟩
  iapply (step_copy m K c _ 0 _ (target1 c) (send_off c 0) rfl rfl rfl) $$ [HO Hr0 Hb0 Ht0]
  · iframe HR HO Hr0 Hb0 Ht0
  iintro ⟨Hc0, HO⟩
  iapply (step_load_x m c (nbr c 1) (stage_off c 1)) $$ Hx
  iintro Hx
  iapply (step_load_rows c (nbr c 1) f (stage_off c 1)) $$ Hr1
  iintro Hr1
  iapply run_ret
  iapply Hk
  iframe

/-- Step 2's rows staged and copied; step 4's rows staged. -/
theorem part6 (K : Dev nD × Port → ℕ) (v2 v157 : BitVec 32) (f : (cc0_scratch0 : Ref sig .tc).ty.Contents (Elt F)) {Ψ : _ → sProp 𝕄} :
    iprop(records m K ∗ rowPts c (nbr c 1) f ∗ debt c (owedCopies c [1, 3, 2, 4, 5, 6]) ∗ barPay c 1 ∗ copyKit c 1 ∗ xPts c (xIn m c) ∗
        rowPts c (nbr c 3) f)
      ⊢ iprop((∀ (v186 : BitVec 32), (cred (tallyAt (sendCell 1 c) () N) ∗ debt c (owedCopies c [3, 2, 4, 5, 6]) ∗ xPts c (xIn m c) ∗ rowPts c (nbr c 3) (xBf m c)) -∗ Ψ v186)
        -∗ run c (k0_part6 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2 v157 (k0_pay2 (xVal m c (nbr c 1)))) Ψ) := by
  rw [k0_part6_eq_skeleton]; unfold k0_part6_skel
  simp only [semSignalWord, semWaitWord, Prog.lift, Prog.bind_op, Prog.bind_ret, Prog.pure_eq_ret]
  iintro ⟨#HR, Hr1, HO, Hb1, Ht1, Hx, Hr3⟩ Hk
  iapply (step_store_rows m c (nbr c 1) f (stage_off c 1) _ (pay1_eq m c _)) $$ Hr1
  iintro Hr1
  iapply (step_copy m K c _ 1 _ (target2 c) (send_off c 1) rfl rfl rfl) $$ [HO Hr1 Hb1 Ht1]
  · iframe HR HO Hr1 Hb1 Ht1
  iintro ⟨Hc1, HO⟩
  iapply (step_stage m c (nbr c 3) f (stage_off c 3) (pay1_eq m c _)) $$ [Hx Hr3]
  · iframe Hx Hr3
  iintro ⟨Hx, Hr3⟩
  iapply run_ret
  iapply Hk
  iframe

/-- Step 4's rows copied; step 3's rows staged and copied. -/
theorem part7 (K : Dev nD × Port → ℕ) (v2 : BitVec 32) (f : (cc0_scratch0 : Ref sig .tc).ty.Contents (Elt F)) {Ψ : _ → sProp 𝕄} :
    iprop(records m K ∗ debt c (owedCopies c [3, 2, 4, 5, 6]) ∗ rowPts c (nbr c 3) (xBf m c) ∗ barPay c 3 ∗ copyKit c 3 ∗ xPts c (xIn m c) ∗
        rowPts c (nbr c 2) f ∗ barPay c 2 ∗ copyKit c 2)
      ⊢ iprop((∀ (v215 v234 : BitVec 32), (cred (tallyAt (sendCell 3 c) () N) ∗ xPts c (xIn m c) ∗ cred (tallyAt (sendCell 2 c) () N) ∗ debt c (owedCopies c [4, 5, 6])) -∗ Ψ ⟨v215, v234⟩)
        -∗ run c (k0_part7 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2) Ψ) := by
  rw [k0_part7_eq_skeleton]; unfold k0_part7_skel
  simp only [semSignalWord, semWaitWord, Prog.lift, Prog.bind_op, Prog.bind_ret, Prog.pure_eq_ret]
  iintro ⟨#HR, HO, Hr3, Hb3, Ht3, Hx, Hr2, Hb2, Ht2⟩ Hk
  iapply (step_copy m K c _ 3 _ (target3 c) (send_off c 3) rfl rfl rfl) $$ [HO Hr3 Hb3 Ht3]
  · iframe HR HO Hr3 Hb3 Ht3
  iintro ⟨Hc3, HO⟩
  iapply (step_stage m c (nbr c 2) f (stage_off c 2) (pay1_eq m c _)) $$ [Hx Hr2]
  · iframe Hx Hr2
  iintro ⟨Hx, Hr2⟩
  iapply (step_copy m K c _ 2 _ (target4 c) (send_off c 2) rfl rfl rfl) $$ [HO Hr2 Hb2 Ht2]
  · iframe HR HO Hr2 Hb2 Ht2
  iintro ⟨Hc2, HO⟩
  iapply run_ret
  iapply Hk
  iframe

/-- Step 5's rows staged and copied. -/
theorem part8 (K : Dev nD × Port → ℕ) (v2 v234 : BitVec 32) (f : (cc0_scratch0 : Ref sig .tc).ty.Contents (Elt F)) {Ψ : _ → sProp 𝕄} :
    iprop(records m K ∗ xPts c (xIn m c) ∗ rowPts c (nbr c 4) f ∗ debt c (owedCopies c [4, 5, 6]) ∗ barPay c 4 ∗ copyKit c 4)
      ⊢ iprop((∀ (v244 v268 v269 : BitVec 32), (xPts c (xIn m c) ∗ cred (tallyAt (sendCell 4 c) () N) ∗ debt c (owedCopies c [5, 6])) -∗ Ψ ⟨v244, v268, v269, 4#32⟩)
        -∗ run c (k0_part8 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2 v234) Ψ) := by
  rw [k0_part8_eq_skeleton]; unfold k0_part8_skel
  simp only [semSignalWord, semWaitWord, Prog.lift, Prog.bind_op, Prog.bind_ret, Prog.pure_eq_ret]
  iintro ⟨#HR, Hx, Hr4, HO, Hb4, Ht4⟩ Hk
  iapply (step_stage m c (nbr c 4) f (stage_off c 4) (pay1_eq m c _)) $$ [Hx Hr4]
  · iframe Hx Hr4
  iintro ⟨Hx, Hr4⟩
  iapply (step_copy m K c _ 4 _ (target5 c) (send_off c 4) rfl rfl rfl) $$ [HO Hr4 Hb4 Ht4]
  · iframe HR HO Hr4 Hb4 Ht4
  iintro ⟨Hc4, HO⟩
  iapply run_ret
  iapply Hk
  iframe

/-- Step 6's rows staged and copied; step 7's rows loaded. -/
theorem part9 (K : Dev nD × Port → ℕ) (v2 v268 v269 w : BitVec 32) (f : (cc0_scratch0 : Ref sig .tc).ty.Contents (Elt F)) {Ψ : _ → sProp 𝕄} :
    iprop(records m K ∗ xPts c (xIn m c) ∗ rowPts c (nbr c 5) f ∗ debt c (owedCopies c [5, 6]) ∗ barPay c 5 ∗ copyKit c 5)
      ⊢ iprop((∀ (v273 v302 v303 : BitVec 32), (cred (tallyAt (sendCell 5 c) () N) ∗ debt c (owedCopies c [6]) ∗ xPts c (xIn m c)) -∗ Ψ ⟨v273, v302, v303, k0_pay8 (xVal m c (nbr c 6))⟩)
        -∗ run c (k0_part9 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2 v268 v269 w) Ψ) := by
  rw [k0_part9_eq_skeleton]; unfold k0_part9_skel
  simp only [semSignalWord, semWaitWord, Prog.lift, Prog.bind_op, Prog.bind_ret, Prog.pure_eq_ret]
  iintro ⟨#HR, Hx, Hr5, HO, Hb5, Ht5⟩ Hk
  iapply (step_stage m c (nbr c 5) f (stage_off c 5) (pay1_eq m c _)) $$ [Hx Hr5]
  · iframe Hx Hr5
  iintro ⟨Hx, Hr5⟩
  iapply (step_copy m K c _ 5 _ (target6 c) (send_off c 5) rfl rfl rfl) $$ [HO Hr5 Hb5 Ht5]
  · iframe HR HO Hr5 Hb5 Ht5
  iintro ⟨Hc5, HO⟩
  iapply (step_load_x m c (nbr c 6) (stage_off c 6)) $$ Hx
  iintro Hx
  iapply run_ret
  iapply Hk
  iframe

/-- Step 7's rows staged and copied; the device's own rows staged, and read beside the first bank. -/
theorem part10 (K : Dev nD × Port → ℕ) (v2 v302 v303 : BitVec 32) (f : (cc0_scratch0 : Ref sig .tc).ty.Contents (Elt F)) {Ψ : _ → sProp 𝕄} :
    iprop(records m K ∗ rowPts c (nbr c 6) f ∗ debt c (owedCopies c [6]) ∗ barPay c 6 ∗ copyKit c 6 ∗ xPts c (xIn m c) ∗ rowPts c c f ∗
        fetching m c 0 c)
      ⊢ iprop(((cred (tallyAt (sendCell 6 c) () N) ∗ xPts c (xIn m c) ∗ wrowPts c c (wIn m c) ∗ semVal ((c : Thread nD τ), .dma (bankSem 0)) 0 ∗ debt c 0 ∗
            rowPts c c (xBf m c) ∗ bankPts c 0 (banked m c c)) -∗ Ψ ⟨xbVal m c c, wVal m c c⟩)
        -∗ run c (k0_part10 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2 v302 v303 (k0_pay8 (xVal m c (nbr c 6)))) Ψ) := by
  rw [k0_part10_eq_skeleton]; unfold k0_part10_skel
  simp only [semSignalWord, semWaitWord, Prog.lift, Prog.bind_op, Prog.bind_ret, Prog.pure_eq_ret]
  iintro ⟨#HR, Hr6, HO, Hb6, Ht6, Hx, HrC, Hf0⟩ Hk
  iapply (step_load_rows c (nbr c 6) f (stage_off c 6)) $$ Hr6
  iintro Hr6
  iapply (step_store_rows m c (nbr c 6) f (stage_off c 6) _ (pay1_eq m c _)) $$ Hr6
  iintro Hr6
  iapply (step_copy m K c _ 6 _ (target7 c) (send_off c 6) rfl rfl rfl) $$ [HO Hr6 Hb6 Ht6]
  · iframe HR HO Hr6 Hb6 Ht6
  iintro ⟨Hc6, HO⟩
  iapply (step_stage m c c f (k0_off5_eq c) (pay1_eq m c _)) $$ [Hx HrC]
  · iframe Hx HrC
  iintro ⟨Hx, HrC⟩
  iapply (step_fetched m c 0 c rfl (dst := bankM 0) rfl) $$ [Hf0 HO]
  · iframe Hf0 HO
  iintro ⟨Hk0, HwC, Hm0, HO⟩
  iapply (step_load_own m c c (k0_off5_eq c)) $$ HrC
  iintro HrC
  iapply (step_load_bank m c 0 c rfl) $$ Hk0
  iintro Hk0
  iapply run_ret
  iapply Hk
  iframe

/-- The accumulator started; a fetch. -/
theorem part11 (v2 : BitVec 32) (fa : (cc0_scratch3 : Ref sig .tc).ty.Contents (Elt F)) {Ψ : _ → sProp 𝕄} :
    iprop(accPts c fa ∗ wrowPts c (nbr c 1) (wIn m c) ∗ bankPts c 0 (banked m c c) ∗ semVal ((c : Thread nD τ), .dma (bankSem 0)) 0)
      ⊢ iprop((∀ (v373 : BitVec 32), (accPts c (accAfter m c []) ∗ fetching m c 0 (nbr c 1)) -∗ Ψ ⟨v373, 512#32⟩)
        -∗ run c (k0_part11 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2 (xbVal m c c) (wVal m c c)) Ψ) := by
  rw [k0_part11_eq_skeleton]; unfold k0_part11_skel
  simp only [semSignalWord, semWaitWord, Prog.lift, Prog.bind_op, Prog.bind_ret, Prog.pure_eq_ret]
  iintro ⟨Hacc, Hw1, Hk0, Hm0⟩ Hk
  iapply (step_load_acc c fa rfl) $$ Hacc
  iintro Hacc
  iapply (step_store_acc c fa rfl (accAfter m c [])) $$ Hacc
  iintro Hacc
  iapply (step_fetch m c 0 (nbr c 1) (banked m c c) (fetch_off c 1) rfl rfl) $$ [Hw1 Hk0 Hm0]
  · iframe Hw1 Hk0 Hm0
  iintro Hf0
  iapply run_ret
  iapply Hk
  iframe

end Cert.Exchange

end
-- ==== Proof.Adding.lean ====
/-
# The body's sums

The parts that wait for a partner's rows and for the weights' rows, and add their product to the accumulator.
-/
module

public import proofs.«01_k».proof.Proof.Sending

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

/-- Step 1 added. -/
theorem part12 (K : Dev nD × Port → ℕ) (v2 v128 v373 w : BitVec 32) {Ψ : _ → sProp 𝕄} :
    iprop(records m K ∗ fetching m c 1 (nbr c 0) ∗ debt c 0 ∗ cred (tallyAt (recvCell 0 c) () N) ∗ atPos ER (recvCell 0 c) 0 ∅ 0 ∗
        accPts c (accAfter m c []))
      ⊢ iprop((∀ (v402 : BitVec 32), (wrowPts c (nbr c 0) (wIn m c) ∗ semVal ((c : Thread nD τ), .dma (bankSem 1)) 0 ∗ debt c 0 ∗ semVal (recvCell 0 c) 0 ∗
            slotPts c (Fin.succ 0) (received m c) ∗ bankPts c 1 (banked m c (nbr c 0)) ∗ accPts c (accAfter m c [1])) -∗ Ψ ⟨v402, 4#32⟩)
        -∗ run c (k0_part12 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2 v128 v373 w) Ψ) := by
  rw [k0_part12_eq_skeleton]; unfold k0_part12_skel
  simp only [semSignalWord, semWaitWord, Prog.lift, Prog.bind_op, Prog.bind_ret, Prog.pure_eq_ret]
  iintro ⟨#HR, Hf1, HO, Hd0, Ha0, Hacc⟩ Hk
  iapply (step_fetched m c 1 (nbr c 0) rfl (dst := bankM 1) rfl) $$ [Hf1 HO]
  · iframe Hf1 HO
  iintro ⟨Hk1, Hw0, Hm1, HO⟩
  iapply (step_recv m K c 0 rfl (dst := slotM (Fin.succ 0)) rfl) $$ [HO Hd0 Ha0]
  · iframe HR HO Hd0 Ha0
  iintro ⟨HO, Hs0, Hv0⟩
  iapply (step_add m c 0 1 (accAfter m c []) (accAfter m c [1]) rfl rfl rfl rfl rfl) $$ [Hs0 Hk1 Hacc]
  · iframe Hs0 Hk1 Hacc
  iintro ⟨Hs0, Hk1, Hacc⟩
  iapply run_ret
  iapply Hk
  iframe

/-- A fetch, and the wait for another. -/
theorem part13 (v2 v157 v402 w : BitVec 32) {Ψ : _ → sProp 𝕄} :
    iprop(wrowPts c (nbr c 3) (wIn m c) ∗ bankPts c 1 (banked m c (nbr c 0)) ∗ semVal ((c : Thread nD τ), .dma (bankSem 1)) 0 ∗
        fetching m c 0 (nbr c 1) ∗ debt c 0)
      ⊢ iprop(((fetching m c 1 (nbr c 3) ∗ bankPts c 0 (banked m c (nbr c 1)) ∗ wrowPts c (nbr c 1) (wIn m c) ∗
            semVal ((c : Thread nD τ), .dma (bankSem 0)) 0 ∗ debt c 0) -∗ Ψ ⟨⟩)
        -∗ run c (k0_part13 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2 v157 v402 w) Ψ) := by
  rw [k0_part13_eq_skeleton]; unfold k0_part13_skel
  simp only [semSignalWord, semWaitWord, Prog.lift, Prog.bind_op, Prog.bind_ret, Prog.pure_eq_ret]
  iintro ⟨Hw3, Hk1, Hm1, Hf0, HO⟩ Hk
  iapply (step_fetch m c 1 (nbr c 3) (banked m c (nbr c 0)) (fetch_off c 3) rfl rfl) $$ [Hw3 Hk1 Hm1]
  · iframe Hw3 Hk1 Hm1
  iintro Hf1
  iapply (step_fetched m c 0 (nbr c 1) rfl (dst := bankM 0) rfl) $$ [Hf0 HO]
  · iframe Hf0 HO
  iintro ⟨Hk0, Hw1, Hm0, HO⟩
  iapply run_ret
  iapply Hk
  iframe

/-- Step 2 added. -/
theorem part14 (K : Dev nD × Port → ℕ) (v2 : BitVec 32) {Ψ : _ → sProp 𝕄} :
    iprop(records m K ∗ debt c 0 ∗ cred (tallyAt (recvCell 1 c) () N) ∗ atPos ER (recvCell 1 c) 0 ∅ 0 ∗ bankPts c 0 (banked m c (nbr c 1)) ∗
        accPts c (accAfter m c [1]))
      ⊢ iprop(((debt c 0 ∗ semVal (recvCell 1 c) 0 ∗ slotPts c (Fin.succ 1) (received m c) ∗ bankPts c 0 (banked m c (nbr c 1)) ∗
            accPts c (accAfter m c [2, 1])) -∗ Ψ ⟨⟩)
        -∗ run c (k0_part14 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2) Ψ) := by
  rw [k0_part14_eq_skeleton]; unfold k0_part14_skel
  simp only [semSignalWord, semWaitWord, Prog.lift, Prog.bind_op, Prog.bind_ret, Prog.pure_eq_ret]
  iintro ⟨#HR, HO, Hd1, Ha1, Hk0, Hacc⟩ Hk
  iapply (step_recv m K c 1 rfl (dst := slotM (Fin.succ 1)) rfl) $$ [HO Hd1 Ha1]
  · iframe HR HO Hd1 Ha1
  iintro ⟨HO, Hs1, Hv1⟩
  iapply (step_add m c 1 0 (accAfter m c [1]) (accAfter m c [2, 1]) rfl rfl rfl rfl rfl) $$ [Hs1 Hk0 Hacc]
  · iframe Hs1 Hk0 Hacc
  iintro ⟨Hs1, Hk0, Hacc⟩
  iapply run_ret
  iapply Hk
  iframe

/-- A fetch, and step 4's operands read. -/
theorem part15 (K : Dev nD × Port → ℕ) (v2 v186 : BitVec 32) {Ψ : _ → sProp 𝕄} :
    iprop(records m K ∗ wrowPts c (nbr c 2) (wIn m c) ∗ bankPts c 0 (banked m c (nbr c 1)) ∗ semVal ((c : Thread nD τ), .dma (bankSem 0)) 0 ∗
        fetching m c 1 (nbr c 3) ∗ debt c 0 ∗ cred (tallyAt (recvCell 3 c) () N) ∗ atPos ER (recvCell 3 c) 0 ∅ 0)
      ⊢ iprop(((fetching m c 0 (nbr c 2) ∗ wrowPts c (nbr c 3) (wIn m c) ∗ semVal ((c : Thread nD τ), .dma (bankSem 1)) 0 ∗ debt c 0 ∗
            semVal (recvCell 3 c) 0 ∗ slotPts c (Fin.succ 3) (received m c) ∗ bankPts c 1 (banked m c (nbr c 3))) -∗ Ψ ⟨k0_pay14 (slotVal m c (Fin.succ 3)), k0_pay15 (wVal m c (nbr c 3))⟩)
        -∗ run c (k0_part15 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2 v186) Ψ) := by
  rw [k0_part15_eq_skeleton]; unfold k0_part15_skel
  simp only [semSignalWord, semWaitWord, Prog.lift, Prog.bind_op, Prog.bind_ret, Prog.pure_eq_ret]
  iintro ⟨#HR, Hw2, Hk0, Hm0, Hf1, HO, Hd3, Ha3⟩ Hk
  iapply (step_fetch m c 0 (nbr c 2) (banked m c (nbr c 1)) (fetch_off c 2) rfl rfl) $$ [Hw2 Hk0 Hm0]
  · iframe Hw2 Hk0 Hm0
  iintro Hf0
  iapply (step_fetched m c 1 (nbr c 3) rfl (dst := bankM 1) rfl) $$ [Hf1 HO]
  · iframe Hf1 HO
  iintro ⟨Hk1, Hw3, Hm1, HO⟩
  iapply (step_recv m K c 3 rfl (dst := slotM (Fin.succ 3)) rfl) $$ [HO Hd3 Ha3]
  · iframe HR HO Hd3 Ha3
  iintro ⟨HO, Hs3, Hv3⟩
  iapply (step_load_slot m c (Fin.succ 3) rfl) $$ Hs3
  iintro Hs3
  iapply (step_load_bank m c 1 (nbr c 3) rfl) $$ Hk1
  iintro Hk1
  iapply run_ret
  iapply Hk
  iframe

/-- Step 4 added; a fetch. -/
theorem part16 (v2 : BitVec 32) {Ψ : _ → sProp 𝕄} :
    iprop(accPts c (accAfter m c [2, 1]) ∗ wrowPts c (nbr c 4) (wIn m c) ∗ bankPts c 1 (banked m c (nbr c 3)) ∗
        semVal ((c : Thread nD τ), .dma (bankSem 1)) 0)
      ⊢ iprop((∀ (v525 v526 v527 : BitVec 32), (accPts c (accAfter m c [4, 2, 1]) ∗ fetching m c 1 (nbr c 4)) -∗ Ψ ⟨v525, v526, v527⟩)
        -∗ run c (k0_part16 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2 (k0_pay14 (slotVal m c (Fin.succ 3))) (k0_pay15 (wVal m c (nbr c 3)))) Ψ) := by
  rw [k0_part16_eq_skeleton]; unfold k0_part16_skel
  simp only [semSignalWord, semWaitWord, Prog.lift, Prog.bind_op, Prog.bind_ret, Prog.pure_eq_ret]
  iintro ⟨Hacc, Hw4, Hk1, Hm1⟩ Hk
  iapply (step_load_acc c (accAfter m c [2, 1]) rfl) $$ Hacc
  iintro Hacc
  iapply (step_load_acc c (accAfter m c [2, 1]) rfl) $$ Hacc
  iintro Hacc
  iapply (step_store_acc c (accAfter m c [2, 1]) rfl (accAfter m c [4, 2, 1])) $$ Hacc
  iintro Hacc
  iapply (step_fetch m c 1 (nbr c 4) (banked m c (nbr c 3)) (fetch_off c 4) rfl rfl) $$ [Hw4 Hk1 Hm1]
  · iframe Hw4 Hk1 Hm1
  iintro Hf1
  iapply run_ret
  iapply Hk
  iframe

/-- Step 3 added. -/
theorem part17 (K : Dev nD × Port → ℕ) (v2 v215 v525 v526 v527 : BitVec 32) {Ψ : _ → sProp 𝕄} :
    iprop(records m K ∗ fetching m c 0 (nbr c 2) ∗ debt c 0 ∗ cred (tallyAt (recvCell 2 c) () N) ∗ atPos ER (recvCell 2 c) 0 ∅ 0 ∗
        accPts c (accAfter m c [4, 2, 1]))
      ⊢ iprop((∀ (v554 v555 v556 : BitVec 32), (wrowPts c (nbr c 2) (wIn m c) ∗ semVal ((c : Thread nD τ), .dma (bankSem 0)) 0 ∗ debt c 0 ∗ semVal (recvCell 2 c) 0 ∗
            slotPts c (Fin.succ 2) (received m c) ∗ bankPts c 0 (banked m c (nbr c 2)) ∗ accPts c (accAfter m c [3, 4, 2, 1])) -∗ Ψ ⟨v554, v555, v556⟩)
        -∗ run c (k0_part17 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2 v215 v525 v526 v527) Ψ) := by
  rw [k0_part17_eq_skeleton]; unfold k0_part17_skel
  simp only [semSignalWord, semWaitWord, Prog.lift, Prog.bind_op, Prog.bind_ret, Prog.pure_eq_ret]
  iintro ⟨#HR, Hf0, HO, Hd2, Ha2, Hacc⟩ Hk
  iapply (step_fetched m c 0 (nbr c 2) rfl (dst := bankM 0) rfl) $$ [Hf0 HO]
  · iframe Hf0 HO
  iintro ⟨Hk0, Hw2, Hm0, HO⟩
  iapply (step_recv m K c 2 rfl (dst := slotM (Fin.succ 2)) rfl) $$ [HO Hd2 Ha2]
  · iframe HR HO Hd2 Ha2
  iintro ⟨HO, Hs2, Hv2⟩
  iapply (step_add m c 2 0 (accAfter m c [4, 2, 1]) (accAfter m c [3, 4, 2, 1]) rfl rfl rfl rfl rfl) $$ [Hs2 Hk0 Hacc]
  · iframe Hs2 Hk0 Hacc
  iintro ⟨Hs2, Hk0, Hacc⟩
  iapply run_ret
  iapply Hk
  iframe

/-- A fetch, and the wait for another. -/
theorem part18 (v2 v554 v555 v556 : BitVec 32) {Ψ : _ → sProp 𝕄} :
    iprop(wrowPts c (nbr c 5) (wIn m c) ∗ bankPts c 0 (banked m c (nbr c 2)) ∗ semVal ((c : Thread nD τ), .dma (bankSem 0)) 0 ∗
        fetching m c 1 (nbr c 4) ∗ debt c 0)
      ⊢ iprop(((fetching m c 0 (nbr c 5) ∗ bankPts c 1 (banked m c (nbr c 4)) ∗ wrowPts c (nbr c 4) (wIn m c) ∗
            semVal ((c : Thread nD τ), .dma (bankSem 1)) 0 ∗ debt c 0) -∗ Ψ 1#32)
        -∗ run c (k0_part18 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2 v554 v555 v556) Ψ) := by
  rw [k0_part18_eq_skeleton]; unfold k0_part18_skel
  simp only [semSignalWord, semWaitWord, Prog.lift, Prog.bind_op, Prog.bind_ret, Prog.pure_eq_ret]
  iintro ⟨Hw5, Hk0, Hm0, Hf1, HO⟩ Hk
  iapply (step_fetch m c 0 (nbr c 5) (banked m c (nbr c 2)) (fetch_off c 5) rfl rfl) $$ [Hw5 Hk0 Hm0]
  · iframe Hw5 Hk0 Hm0
  iintro Hf0
  iapply (step_fetched m c 1 (nbr c 4) rfl (dst := bankM 1) rfl) $$ [Hf1 HO]
  · iframe Hf1 HO
  iintro ⟨Hk1, Hw4, Hm1, HO⟩
  iapply run_ret
  iapply Hk
  iframe

/-- Step 5 added. -/
theorem part19 (K : Dev nD × Port → ℕ) (v2 v244 w : BitVec 32) {Ψ : _ → sProp 𝕄} :
    iprop(records m K ∗ debt c 0 ∗ cred (tallyAt (recvCell 4 c) () N) ∗ atPos ER (recvCell 4 c) 0 ∅ 0 ∗ bankPts c 1 (banked m c (nbr c 4)) ∗
        accPts c (accAfter m c [3, 4, 2, 1]))
      ⊢ iprop(((debt c 0 ∗ semVal (recvCell 4 c) 0 ∗ slotPts c (Fin.succ 4) (received m c) ∗ bankPts c 1 (banked m c (nbr c 4)) ∗
            accPts c (accAfter m c [5, 3, 4, 2, 1])) -∗ Ψ ⟨⟩)
        -∗ run c (k0_part19 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2 v244 w) Ψ) := by
  rw [k0_part19_eq_skeleton]; unfold k0_part19_skel
  simp only [semSignalWord, semWaitWord, Prog.lift, Prog.bind_op, Prog.bind_ret, Prog.pure_eq_ret]
  iintro ⟨#HR, HO, Hd4, Ha4, Hk1, Hacc⟩ Hk
  iapply (step_recv m K c 4 rfl (dst := slotM (Fin.succ 4)) rfl) $$ [HO Hd4 Ha4]
  · iframe HR HO Hd4 Ha4
  iintro ⟨HO, Hs4, Hv4⟩
  iapply (step_add m c 4 1 (accAfter m c [3, 4, 2, 1]) (accAfter m c [5, 3, 4, 2, 1]) rfl rfl rfl rfl rfl) $$ [Hs4 Hk1 Hacc]
  · iframe Hs4 Hk1 Hacc
  iintro ⟨Hs4, Hk1, Hacc⟩
  iapply run_ret
  iapply Hk
  iframe

/-- The last fetch; step 6's rows read. -/
theorem part20 (K : Dev nD × Port → ℕ) (v2 v273 : BitVec 32) {Ψ : _ → sProp 𝕄} :
    iprop(records m K ∗ wrowPts c (nbr c 6) (wIn m c) ∗ bankPts c 1 (banked m c (nbr c 4)) ∗ semVal ((c : Thread nD τ), .dma (bankSem 1)) 0 ∗
        fetching m c 0 (nbr c 5) ∗ debt c 0 ∗ cred (tallyAt (recvCell 5 c) () N) ∗ atPos ER (recvCell 5 c) 0 ∅ 0)
      ⊢ iprop(((fetching m c 1 (nbr c 6) ∗ bankPts c 0 (banked m c (nbr c 5)) ∗ wrowPts c (nbr c 5) (wIn m c) ∗
            semVal ((c : Thread nD τ), .dma (bankSem 0)) 0 ∗ debt c 0 ∗ semVal (recvCell 5 c) 0 ∗ slotPts c (Fin.succ 5) (received m c)) -∗ Ψ (k0_pay19 (slotVal m c (Fin.succ 5))))
        -∗ run c (k0_part20 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2 v273) Ψ) := by
  rw [k0_part20_eq_skeleton]; unfold k0_part20_skel
  simp only [semSignalWord, semWaitWord, Prog.lift, Prog.bind_op, Prog.bind_ret, Prog.pure_eq_ret]
  iintro ⟨#HR, Hw6, Hk1, Hm1, Hf0, HO, Hd5, Ha5⟩ Hk
  iapply (step_fetch m c 1 (nbr c 6) (banked m c (nbr c 4)) (fetch_off c 6) rfl rfl) $$ [Hw6 Hk1 Hm1]
  · iframe Hw6 Hk1 Hm1
  iintro Hf1
  iapply (step_fetched m c 0 (nbr c 5) rfl (dst := bankM 0) rfl) $$ [Hf0 HO]
  · iframe Hf0 HO
  iintro ⟨Hk0, Hw5, Hm0, HO⟩
  iapply (step_recv m K c 5 rfl (dst := slotM (Fin.succ 5)) rfl) $$ [HO Hd5 Ha5]
  · iframe HR HO Hd5 Ha5
  iintro ⟨HO, Hs5, Hv5⟩
  iapply (step_load_slot m c (Fin.succ 5) rfl) $$ Hs5
  iintro Hs5
  iapply run_ret
  iapply Hk
  iframe

/-- Step 6 added. -/
theorem part21 (v2 v302 : BitVec 32) {Ψ : _ → sProp 𝕄} :
    iprop(bankPts c 0 (banked m c (nbr c 5)) ∗ accPts c (accAfter m c [5, 3, 4, 2, 1]) ∗ fetching m c 1 (nbr c 6) ∗ debt c 0)
      ⊢ iprop(((bankPts c 0 (banked m c (nbr c 5)) ∗ accPts c (accAfter m c [6, 5, 3, 4, 2, 1]) ∗ bankPts c 1 (banked m c (nbr c 6)) ∗
            wrowPts c (nbr c 6) (wIn m c) ∗ semVal ((c : Thread nD τ), .dma (bankSem 1)) 0 ∗ debt c 0) -∗ Ψ ⟨⟩)
        -∗ run c (k0_part21 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c v2 v302 (k0_pay19 (slotVal m c (Fin.succ 5)))) Ψ) := by
  rw [k0_part21_eq_skeleton]; unfold k0_part21_skel
  simp only [semSignalWord, semWaitWord, Prog.lift, Prog.bind_op, Prog.bind_ret, Prog.pure_eq_ret]
  iintro ⟨Hk0, Hacc, Hf1, HO⟩ Hk
  iapply (step_load_bank m c 0 (nbr c 5) rfl) $$ Hk0
  iintro Hk0
  iapply (step_load_acc c (accAfter m c [5, 3, 4, 2, 1]) rfl) $$ Hacc
  iintro Hacc
  iapply (step_load_acc c (accAfter m c [5, 3, 4, 2, 1]) rfl) $$ Hacc
  iintro Hacc
  iapply (step_store_acc c (accAfter m c [5, 3, 4, 2, 1]) rfl (accAfter m c [6, 5, 3, 4, 2, 1])) $$ Hacc
  iintro Hacc
  iapply (step_fetched m c 1 (nbr c 6) rfl (dst := bankM 1) rfl) $$ [Hf1 HO]
  · iframe Hf1 HO
  iintro ⟨Hk1, Hw6, Hm1, HO⟩
  iapply run_ret
  iapply Hk
  iframe

end Cert.Exchange

end
-- ==== Proof.Writing.lean ====
/-
# The body's end

The last step by blocks of columns, each stored with the activation taken and copied to the result, and the waits for
what is still on its way.
-/
module

public import proofs.«01_k».proof.Proof.Sending

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

/-- Step 7's operands read; the result's first block of columns stored, and its copy started. -/
theorem part22 (K : Dev nD × Port → ℕ) (fo : (main_v1 : Ref sig .tc).ty.Contents (Elt F)) {Ψ : _ → sProp 𝕄} :
    iprop(records m K ∗ debt c 0 ∗ cred (tallyAt (recvCell 6 c) () N) ∗ atPos ER (recvCell 6 c) 0 ∅ 0 ∗ bankPts c 1 (banked m c (nbr c 6)) ∗
        colPts c 0 (accLast m c) ∗ outPts c 0 fo ∗ semVal ((c : Thread nD τ), .dma (outSem 0)) 0 ∗ colPts c 1 (accLast m c))
      ⊢ iprop(((debt c 0 ∗ semVal (recvCell 6 c) 0 ∗ slotPts c (Fin.succ 6) (received m c) ∗ bankPts c 1 (banked m c (nbr c 6)) ∗ writing m c 0 ∗
            colPts c 1 (accLast m c)) -∗ Ψ ⟨k0_pay21 (slotVal m c (Fin.succ 6)), k0_pay22 (wVal m c (nbr c 6)), k0_pay24 (slotVal m c (Fin.succ 6)) (wVal m c (nbr c 6)), colVal (accLast m c) 1⟩)
        -∗ run c (k0_part22 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c) Ψ) := by
  rw [k0_part22_eq_skeleton]; unfold k0_part22_skel
  simp only [semSignalWord, semWaitWord, Prog.lift, Prog.bind_op, Prog.bind_ret, Prog.pure_eq_ret]
  iintro ⟨#HR, HO, Hd6, Ha6, Hk1, Hq0, Ho0, Hn0, Hq1⟩ Hk
  iapply (step_recv m K c 6 rfl (dst := slotM (Fin.succ 6)) rfl) $$ [HO Hd6 Ha6]
  · iframe HR HO Hd6 Ha6
  iintro ⟨HO, Hs6, Hv6⟩
  iapply (step_load_slot m c (Fin.succ 6) rfl) $$ Hs6
  iintro Hs6
  iapply (step_load_bank m c 1 (nbr c 6) rfl) $$ Hk1
  iintro Hk1
  iapply (step_load_col c 0 (accLast m c) rfl) $$ Hq0
  iintro Hq0
  iapply (step_load_col c 0 (accLast m c) rfl) $$ Hq0
  iintro Hq0
  iapply (step_store_col m c 0 (accLast m c) rfl _ rfl) $$ Hq0
  iintro Hq0
  iapply (step_write m c 0 fo rfl rfl) $$ [Hq0 Ho0 Hn0]
  · iframe Hq0 Ho0 Hn0
  iintro Hz0
  iapply (step_load_col c 1 (accLast m c) rfl) $$ Hq1
  iintro Hq1
  iapply run_ret
  iapply Hk
  iframe

/-- The second block. -/
theorem part23 (fo : (main_v1 : Ref sig .tc).ty.Contents (Elt F)) {Ψ : _ → sProp 𝕄} :
    iprop(colPts c 1 (accLast m c) ∗ outPts c 1 fo ∗ semVal ((c : Thread nD τ), .dma (outSem 1)) 0 ∗ colPts c 2 (accLast m c))
      ⊢ iprop(((writing m c 1 ∗ colPts c 2 (accLast m c)) -∗ Ψ (k0_pay26 (k0_pay21 (slotVal m c (Fin.succ 6))) (k0_pay22 (wVal m c (nbr c 6))) (colVal (accLast m c) 2)))
        -∗ run c (k0_part23 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 (k0_pay21 (slotVal m c (Fin.succ 6))) (k0_pay22 (wVal m c (nbr c 6))) (k0_pay24 (slotVal m c (Fin.succ 6)) (wVal m c (nbr c 6))) (colVal (accLast m c) 1)) Ψ) := by
  rw [k0_part23_eq_skeleton]; unfold k0_part23_skel
  simp only [semSignalWord, semWaitWord, Prog.lift, Prog.bind_op, Prog.bind_ret, Prog.pure_eq_ret]
  iintro ⟨Hq1, Ho1, Hn1, Hq2⟩ Hk
  iapply (step_load_col c 1 (accLast m c) rfl) $$ Hq1
  iintro Hq1
  iapply (step_store_col m c 1 (accLast m c) rfl _ rfl) $$ Hq1
  iintro Hq1
  iapply (step_write m c 1 fo rfl rfl) $$ [Hq1 Ho1 Hn1]
  · iframe Hq1 Ho1 Hn1
  iintro Hz1
  iapply (step_load_col c 2 (accLast m c) rfl) $$ Hq2
  iintro Hq2
  iapply run_ret
  iapply Hk
  iframe

/-- The third and the fourth block. -/
theorem part24 (fo : (main_v1 : Ref sig .tc).ty.Contents (Elt F)) {Ψ : _ → sProp 𝕄} :
    iprop(colPts c 2 (accLast m c) ∗ outPts c 2 fo ∗ semVal ((c : Thread nD τ), .dma (outSem 2)) 0 ∗ colPts c 3 (accLast m c) ∗ outPts c 3 fo ∗
        semVal ((c : Thread nD τ), .dma (outSem 3)) 0)
      ⊢ iprop(((writing m c 2 ∗ writing m c 3) -∗ Ψ ⟨⟩)
        -∗ run c (k0_part24 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 (k0_pay21 (slotVal m c (Fin.succ 6))) (k0_pay22 (wVal m c (nbr c 6))) (k0_pay26 (k0_pay21 (slotVal m c (Fin.succ 6))) (k0_pay22 (wVal m c (nbr c 6))) (colVal (accLast m c) 2))) Ψ) := by
  rw [k0_part24_eq_skeleton]; unfold k0_part24_skel
  simp only [semSignalWord, semWaitWord, Prog.lift, Prog.bind_op, Prog.bind_ret, Prog.pure_eq_ret]
  iintro ⟨Hq2, Ho2, Hn2, Hq3, Ho3, Hn3⟩ Hk
  iapply (step_load_col c 2 (accLast m c) rfl) $$ Hq2
  iintro Hq2
  iapply (step_store_col m c 2 (accLast m c) rfl _ rfl) $$ Hq2
  iintro Hq2
  iapply (step_write m c 2 fo rfl rfl) $$ [Hq2 Ho2 Hn2]
  · iframe Hq2 Ho2 Hn2
  iintro Hz2
  iapply (step_load_col c 3 (accLast m c) rfl) $$ Hq3
  iintro Hq3
  iapply (step_load_col c 3 (accLast m c) rfl) $$ Hq3
  iintro Hq3
  iapply (step_store_col m c 3 (accLast m c) rfl _ rfl) $$ Hq3
  iintro Hq3
  iapply (step_write m c 3 fo rfl rfl) $$ [Hq3 Ho3 Hn3]
  · iframe Hq3 Ho3 Hn3
  iintro Hz3
  iapply run_ret
  iapply Hk
  iframe

/-- The waits for the result's copies and for the first two copies of rows. -/
theorem part25 (K : Dev nD × Port → ℕ) {Ψ : _ → sProp 𝕄} :
    iprop(records m K ∗ writing m c 0 ∗ debt c 0 ∗ writing m c 1 ∗ writing m c 2 ∗ writing m c 3 ∗ cred (tallyAt (sendCell 0 c) () N) ∗
        atPos ER (sendCell 0 c) 0 ∅ 0 ∗ cred (tallyAt (sendCell 1 c) () N) ∗ atPos ER (sendCell 1 c) 0 ∅ 0)
      ⊢ iprop(((outPts c 0 (outVal m c) ∗ colPts c 0 (outVal m c) ∗ semVal ((c : Thread nD τ), .dma (outSem 0)) 0 ∗ outPts c 1 (outVal m c) ∗
            colPts c 1 (outVal m c) ∗ semVal ((c : Thread nD τ), .dma (outSem 1)) 0 ∗ outPts c 2 (outVal m c) ∗ colPts c 2 (outVal m c) ∗
            semVal ((c : Thread nD τ), .dma (outSem 2)) 0 ∗ outPts c 3 (outVal m c) ∗ colPts c 3 (outVal m c) ∗
            semVal ((c : Thread nD τ), .dma (outSem 3)) 0 ∗ rowPts c (nbr c 0) (xBf m c) ∗ semVal (sendCell 0 c) 0 ∗ debt c 0 ∗
            rowPts c (nbr c 1) (xBf m c) ∗ semVal (sendCell 1 c) 0) -∗ Ψ ⟨⟩)
        -∗ run c (k0_part25 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c) Ψ) := by
  rw [k0_part25_eq_skeleton]; unfold k0_part25_skel
  simp only [semSignalWord, semWaitWord, Prog.lift, Prog.bind_op, Prog.bind_ret, Prog.pure_eq_ret]
  iintro ⟨#HR, Hz0, HO, Hz1, Hz2, Hz3, Hc0, Hp0, Hc1, Hp1⟩ Hk
  iapply (step_written m c 0 rfl (dst := outM 0) rfl) $$ [Hz0 HO]
  · iframe Hz0 HO
  iintro ⟨Ho0, Hq0, Hn0, HO⟩
  iapply (step_written m c 1 rfl (dst := outM 1) rfl) $$ [Hz1 HO]
  · iframe Hz1 HO
  iintro ⟨Ho1, Hq1, Hn1, HO⟩
  iapply (step_written m c 2 rfl (dst := outM 2) rfl) $$ [Hz2 HO]
  · iframe Hz2 HO
  iintro ⟨Ho2, Hq2, Hn2, HO⟩
  iapply (step_written m c 3 rfl (dst := outM 3) rfl) $$ [Hz3 HO]
  · iframe Hz3 HO
  iintro ⟨Ho3, Hq3, Hn3, HO⟩
  iapply (step_sent m K c 0 rfl (dst := sentM c 0) rfl) $$ [HO Hc0 Hp0]
  · iframe HR HO Hc0 Hp0
  iintro ⟨HO, Hr0, Hu0⟩
  iapply (step_sent m K c 1 rfl (dst := sentM c 1) rfl) $$ [HO Hc1 Hp1]
  · iframe HR HO Hc1 Hp1
  iintro ⟨HO, Hr1, Hu1⟩
  iapply run_ret
  iapply Hk
  iframe

/-- The waits for the next four. -/
theorem part26 (K : Dev nD × Port → ℕ) {Ψ : _ → sProp 𝕄} :
    iprop(records m K ∗ debt c 0 ∗ cred (tallyAt (sendCell 3 c) () N) ∗ atPos ER (sendCell 3 c) 0 ∅ 0 ∗ cred (tallyAt (sendCell 2 c) () N) ∗
        atPos ER (sendCell 2 c) 0 ∅ 0 ∗ cred (tallyAt (sendCell 4 c) () N) ∗ atPos ER (sendCell 4 c) 0 ∅ 0 ∗ cred (tallyAt (sendCell 5 c) () N) ∗
        atPos ER (sendCell 5 c) 0 ∅ 0)
      ⊢ iprop(((rowPts c (nbr c 3) (xBf m c) ∗ semVal (sendCell 3 c) 0 ∗ rowPts c (nbr c 2) (xBf m c) ∗ semVal (sendCell 2 c) 0 ∗
            rowPts c (nbr c 4) (xBf m c) ∗ semVal (sendCell 4 c) 0 ∗ debt c 0 ∗ rowPts c (nbr c 5) (xBf m c) ∗ semVal (sendCell 5 c) 0) -∗ Ψ ⟨⟩)
        -∗ run c (k0_part26 (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 c) Ψ) := by
  rw [k0_part26_eq_skeleton]; unfold k0_part26_skel
  simp only [semSignalWord, semWaitWord, Prog.lift, Prog.bind_op, Prog.bind_ret, Prog.pure_eq_ret]
  iintro ⟨#HR, HO, Hc3, Hp3, Hc2, Hp2, Hc4, Hp4, Hc5, Hp5⟩ Hk
  iapply (step_sent m K c 3 rfl (dst := sentM c 3) rfl) $$ [HO Hc3 Hp3]
  · iframe HR HO Hc3 Hp3
  iintro ⟨HO, Hr3, Hu3⟩
  iapply (step_sent m K c 2 rfl (dst := sentM c 2) rfl) $$ [HO Hc2 Hp2]
  · iframe HR HO Hc2 Hp2
  iintro ⟨HO, Hr2, Hu2⟩
  iapply (step_sent m K c 4 rfl (dst := sentM c 4) rfl) $$ [HO Hc4 Hp4]
  · iframe HR HO Hc4 Hp4
  iintro ⟨HO, Hr4, Hu4⟩
  iapply (step_sent m K c 5 rfl (dst := sentM c 5) rfl) $$ [HO Hc5 Hp5]
  · iframe HR HO Hc5 Hp5
  iintro ⟨HO, Hr5, Hu5⟩
  iapply run_ret
  iapply Hk
  iframe

end Cert.Exchange

end
-- ==== Proof.Body.lean ====
/-
# The body on any device

The parts run in order.
-/
module

public import proofs.«01_k».proof.Proof.Adding
public import proofs.«01_k».proof.Proof.Writing

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

/-- A program in two halves. -/
theorem run_bind {α β : Type} (p : Prog (TpuEff nD τ sig (Elt F) Λ₀ .tc) α) (k : α → Prog (TpuEff nD τ sig (Elt F) Λ₀ .tc) β) (Ψ : β → sProp 𝕄) :
    run c p (fun a => run c (k a) Ψ) ⊢ run c (p >>= k) Ψ := by
  unfold run
  rw [wp_bind]

/-- A family over the seven steps, written out. -/
theorem seven (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]
  rfl
/-- A family over the four blocks of columns, written out. -/
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  rfl

/-- The accumulator by blocks of columns. -/
theorem acc_cols (f : (cc0_scratch3 : Ref sig .tc).ty.Contents (Elt F)) :
    accPts c f ⊢ iprop(colPts c 0 f ∗ colPts c 1 f ∗ colPts c 2 f ∗ colPts c 3 f) :=
  Entails.of_eq ((cut_acc c f).trans (four _))

/-- What a device holds when its body starts, the buffers cut along the blocks that it uses one by one. -/
def bodyStart (c : Dev nD) (fr : (cc0_scratch0 : Ref sig .tc).ty.Contents (Elt F)) (fk : (cc0_scratch2 : Ref sig .tc).ty.Contents (Elt F))
    (fa : (cc0_scratch3 : Ref sig .tc).ty.Contents (Elt F)) (fo : (main_v1 : Ref sig .tc).ty.Contents (Elt F)) : sProp 𝕄 :=
  iprop(debt c (O₀ c) ∗ bigSep Finset.univ (fun w : Fin 7 => signalKit c w) ∗ bigSep Finset.univ (fun w : Fin 7 => copyKit c w)
    ∗ cred (tallyAt (barCell c) () 7) ∗ atPos ER (barCell c) 0 ∅ 0
    ∗ bigSep Finset.univ (fun w : Fin 7 => cred (tallyAt (recvCell w c) () N)) ∗ bigSep Finset.univ (fun w : Fin 7 => atPos ER (recvCell w c) 0 ∅ 0)
    ∗ bigSep Finset.univ (fun w : Fin 7 => atPos ER (sendCell w c) 0 ∅ 0)
    ∗ xPts c (xIn m c) ∗ rowPts c c fr ∗ bigSep Finset.univ (fun w : Fin 7 => rowPts c (nbr c w) fr)
    ∗ wrowPts c c (wIn m c) ∗ bigSep Finset.univ (fun w : Fin 7 => wrowPts c (nbr c w) (wIn m c))
    ∗ bankPts c 0 fk ∗ bankPts c 1 fk ∗ accPts c fa ∗ bigSep Finset.univ (fun j : Fin 4 => outPts c j fo)
    ∗ semVal ((c : Thread nD τ), .dma (bankSem 0)) 0 ∗ semVal ((c : Thread nD τ), .dma (bankSem 1)) 0
    ∗ bigSep Finset.univ (fun j : Fin 4 => semVal ((c : Thread nD τ), .dma (outSem j)) 0))

/-- What it holds when the body ends: the result written, every counter that it closes at zero. -/
def bodyEnd (c : Dev nD) : sProp 𝕄 :=
  iprop(debt c 0 ∗ semVal (barCell c) 0
    ∗ bigSep Finset.univ (fun w : Fin 7 => semVal (recvCell w c) 0) ∗ bigSep Finset.univ (fun w : Fin 7 => semVal (sendCell w c) 0)
    ∗ xPts c (xIn m c) ∗ rowPts c c (xBf m c) ∗ bigSep Finset.univ (fun w : Fin 7 => rowPts c (nbr c w) (xBf m c))
    ∗ bigSep Finset.univ (fun w : Fin 7 => slotPts c w.succ (received m c))
    ∗ wrowPts c c (wIn m c) ∗ bigSep Finset.univ (fun w : Fin 7 => wrowPts c (nbr c w) (wIn m c))
    ∗ bankPts c 0 (banked m c (nbr c 5)) ∗ bankPts c 1 (banked m c (nbr c 6))
    ∗ bigSep Finset.univ (fun j : Fin 4 => colPts c j (outVal m c)) ∗ bigSep Finset.univ (fun j : Fin 4 => outPts c j (outVal m c))
    ∗ semVal ((c : Thread nD τ), .dma (bankSem 0)) 0 ∗ semVal ((c : Thread nD τ), .dma (bankSem 1)) 0
    ∗ bigSep Finset.univ (fun j : Fin 4 => semVal ((c : Thread nD τ), .dma (outSem j)) 0))

/-- The body on any device. -/
theorem body_run (K : Dev nD × Port → ℕ) (fr) (fk) (fa) (fo) {Ψ : PUnit → sProp 𝕄} :
    iprop(records m K ∗ levAts L lv ∗ bodyStart m c fr fk fa fo)
      ⊢ iprop((bodyEnd m c -∗ Ψ ⟨⟩) -∗ run c (cc0_body (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7) Ψ) := by
  rw [cc0_body_eq_skeleton]; unfold cc0_body_skel bodyStart bodyEnd
  simp only [seven, four]
  iintro ⟨#HR, #Hlev, HO, ⟨Hg0, Hg1, Hg2, Hg3, Hg4, Hg5, Hg6⟩, ⟨Ht0, Ht1, Ht2, Ht3, Ht4, Ht5, Ht6⟩, Hcb, Hab, ⟨Hd0, Hd1, Hd2, Hd3, Hd4, Hd5, Hd6⟩, ⟨Ha0, Ha1, Ha2, Ha3, Ha4, Ha5, Ha6⟩, ⟨Hp0, Hp1, Hp2, Hp3, Hp4, Hp5, Hp6⟩, Hx, HrC, ⟨Hr0, Hr1, Hr2, Hr3, Hr4, Hr5, Hr6⟩, HwC, ⟨Hw0, Hw1, Hw2, Hw3, Hw4, Hw5, Hw6⟩, Hk0, Hk1, Hacc, ⟨Ho0, Ho1, Ho2, Ho3⟩, Hm0, Hm1, ⟨Hn0, Hn1, Hn2, Hn3⟩⟩ Hk
  iapply (run_bind c)
  iapply (part1 m c K) $$ [HO Hg0 Hg1]
  · iframe HR HO Hg0 Hg1
  iintro %v2 %v30 %v31 HO
  try dsimp only
  iapply (run_bind c)
  iapply (part2 m c K _ _ _ _) $$ [HO Hg3 Hg2]
  · iframe HR HO Hg3 Hg2
  iintro %v63 %v65 HO
  try dsimp only
  iapply (run_bind c)
  iapply (part3 m c K _ _ _) $$ [HO Hg4 Hg5 Hg6]
  · iframe HR HO Hg4 Hg5 Hg6
  iintro HO
  try dsimp only
  iapply (run_bind c)
  iapply (part4 m c K _ fk fk) $$ [HwC Hk0 Hm0 Hw0 Hk1 Hm1 HO Hcb Hab]
  · iframe HR Hlev HwC Hk0 Hm0 Hw0 Hk1 Hm1 HO Hcb Hab
  iintro %v128 ⟨Hf0, Hf1, HO, Hzb, Hb⟩
  try dsimp only
  simp only [seven]
  icases Hb with ⟨Hb0, Hb1, Hb2, Hb3, Hb4, Hb5, Hb6⟩
  iapply (run_bind c)
  iapply (part5 m c K _ _ fr) $$ [Hx Hr0 HO Hb0 Ht0 Hr1]
  · iframe HR Hx Hr0 HO Hb0 Ht0 Hr1
  iintro %v157 ⟨Hc0, HO, Hx, Hr1⟩
  try dsimp only
  iapply (run_bind c)
  iapply (part6 m c K _ _ fr) $$ [Hr1 HO Hb1 Ht1 Hx Hr3]
  · iframe HR Hr1 HO Hb1 Ht1 Hx Hr3
  iintro %v186 ⟨Hc1, HO, Hx, Hr3⟩
  try dsimp only
  iapply (run_bind c)
  iapply (part7 m c K _ fr) $$ [HO Hr3 Hb3 Ht3 Hx Hr2 Hb2 Ht2]
  · iframe HR HO Hr3 Hb3 Ht3 Hx Hr2 Hb2 Ht2
  iintro %v215 %v234 ⟨Hc3, Hx, Hc2, HO⟩
  try dsimp only
  iapply (run_bind c)
  iapply (part8 m c K _ _ fr) $$ [Hx Hr4 HO Hb4 Ht4]
  · iframe HR Hx Hr4 HO Hb4 Ht4
  iintro %v244 %v268 %v269 ⟨Hx, Hc4, HO⟩
  try dsimp only
  iapply (run_bind c)
  iapply (part9 m c K _ _ _ _ fr) $$ [Hx Hr5 HO Hb5 Ht5]
  · iframe HR Hx Hr5 HO Hb5 Ht5
  iintro %v273 %v302 %v303 ⟨Hc5, HO, Hx⟩
  try dsimp only
  iapply (run_bind c)
  iapply (part10 m c K _ _ _ fr) $$ [Hr6 HO Hb6 Ht6 Hx HrC Hf0]
  · iframe HR Hr6 HO Hb6 Ht6 Hx HrC Hf0
  iintro ⟨Hc6, Hx, HwC, Hm0, HO, HrC, Hk0⟩
  try dsimp only
  iapply (run_bind c)
  iapply (part11 m c _ fa) $$ [Hacc Hw1 Hk0 Hm0]
  · iframe Hacc Hw1 Hk0 Hm0
  iintro %v373 ⟨Hacc, Hf0⟩
  try dsimp only
  iapply (run_bind c)
  iapply (part12 m c K _ _ _ _) $$ [Hf1 HO Hd0 Ha0 Hacc]
  · iframe HR Hf1 HO Hd0 Ha0 Hacc
  iintro %v402 ⟨Hw0, Hm1, HO, Hv0, Hs0, Hk1, Hacc⟩
  try dsimp only
  iapply (run_bind c)
  iapply (part13 m c _ _ _ _) $$ [Hw3 Hk1 Hm1 Hf0 HO]
  · iframe Hw3 Hk1 Hm1 Hf0 HO
  iintro ⟨Hf1, Hk0, Hw1, Hm0, HO⟩
  try dsimp only
  iapply (run_bind c)
  iapply (part14 m c K _) $$ [HO Hd1 Ha1 Hk0 Hacc]
  · iframe HR HO Hd1 Ha1 Hk0 Hacc
  iintro ⟨HO, Hv1, Hs1, Hk0, Hacc⟩
  try dsimp only
  iapply (run_bind c)
  iapply (part15 m c K _ _) $$ [Hw2 Hk0 Hm0 Hf1 HO Hd3 Ha3]
  · iframe HR Hw2 Hk0 Hm0 Hf1 HO Hd3 Ha3
  iintro ⟨Hf0, Hw3, Hm1, HO, Hv3, Hs3, Hk1⟩
  try dsimp only
  iapply (run_bind c)
  iapply (part16 m c _) $$ [Hacc Hw4 Hk1 Hm1]
  · iframe Hacc Hw4 Hk1 Hm1
  iintro %v525 %v526 %v527 ⟨Hacc, Hf1⟩
  try dsimp only
  iapply (run_bind c)
  iapply (part17 m c K _ _ _ _ _) $$ [Hf0 HO Hd2 Ha2 Hacc]
  · iframe HR Hf0 HO Hd2 Ha2 Hacc
  iintro %v554 %v555 %v556 ⟨Hw2, Hm0, HO, Hv2, Hs2, Hk0, Hacc⟩
  try dsimp only
  iapply (run_bind c)
  iapply (part18 m c _ _ _ _) $$ [Hw5 Hk0 Hm0 Hf1 HO]
  · iframe Hw5 Hk0 Hm0 Hf1 HO
  iintro ⟨Hf0, Hk1, Hw4, Hm1, HO⟩
  try dsimp only
  iapply (run_bind c)
  iapply (part19 m c K _ _ _) $$ [HO Hd4 Ha4 Hk1 Hacc]
  · iframe HR HO Hd4 Ha4 Hk1 Hacc
  iintro ⟨HO, Hv4, Hs4, Hk1, Hacc⟩
  try dsimp only
  iapply (run_bind c)
  iapply (part20 m c K _ _) $$ [Hw6 Hk1 Hm1 Hf0 HO Hd5 Ha5]
  · iframe HR Hw6 Hk1 Hm1 Hf0 HO Hd5 Ha5
  iintro ⟨Hf1, Hk0, Hw5, Hm0, HO, Hv5, Hs5⟩
  try dsimp only
  iapply (run_bind c)
  iapply (part21 m c _ _) $$ [Hk0 Hacc Hf1 HO]
  · iframe Hk0 Hacc Hf1 HO
  iintro ⟨Hk0, Hacc, Hk1, Hw6, Hm1, HO⟩
  try dsimp only
  ihave Hacc := (acc_cols c _) $$ Hacc
  icases Hacc with ⟨Hq0, Hq1, Hq2, Hq3⟩
  iapply (run_bind c)
  iapply (part22 m c K fo) $$ [HO Hd6 Ha6 Hk1 Hq0 Ho0 Hn0 Hq1]
  · iframe HR HO Hd6 Ha6 Hk1 Hq0 Ho0 Hn0 Hq1
  iintro ⟨HO, Hv6, Hs6, Hk1, Hz0, Hq1⟩
  try dsimp only
  iapply (run_bind c)
  iapply (part23 m c fo) $$ [Hq1 Ho1 Hn1 Hq2]
  · iframe Hq1 Ho1 Hn1 Hq2
  iintro ⟨Hz1, Hq2⟩
  try dsimp only
  iapply (run_bind c)
  iapply (part24 m c fo) $$ [Hq2 Ho2 Hn2 Hq3 Ho3 Hn3]
  · iframe Hq2 Ho2 Hn2 Hq3 Ho3 Hn3
  iintro ⟨Hz2, Hz3⟩
  try dsimp only
  iapply (run_bind c)
  iapply (part25 m c K) $$ [Hz0 HO Hz1 Hz2 Hz3 Hc0 Hp0 Hc1 Hp1]
  · iframe HR Hz0 HO Hz1 Hz2 Hz3 Hc0 Hp0 Hc1 Hp1
  iintro ⟨Ho0, Hq0, Hn0, Ho1, Hq1, Hn1, Ho2, Hq2, Hn2, Ho3, Hq3, Hn3, Hr0, Hu0, HO, Hr1, Hu1⟩
  try dsimp only
  iapply (run_bind c)
  iapply (part26 m c K) $$ [HO Hc3 Hp3 Hc2 Hp2 Hc4 Hp4 Hc5 Hp5]
  · iframe HR HO Hc3 Hp3 Hc2 Hp2 Hc4 Hp4 Hc5 Hp5
  iintro ⟨Hr3, Hu3, Hr2, Hu2, Hr4, Hu4, HO, Hr5, Hu5⟩
  try dsimp only
  simp only [Prog.lift, Prog.bind_op, Prog.bind_ret, Prog.pure_eq_ret]
  iapply (step_sent m K c 6 rfl (dst := sentM c 6) rfl) $$ [HO Hc6 Hp6]
  · iframe HR HO Hc6 Hp6
  iintro ⟨HO, Hr6, Hu6⟩
  iapply run_ret
  iapply Hk
  iframe

end Cert.Exchange

end
-- ==== Proof.Device.lean ====
/-
# A device's obligation

What a device holds when the kernel is entered, what it holds when it is left, and that the body takes the one to the
other.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

/-! ## Families over the devices and over the steps -/

/-- A family over the eight steps: the step of the device with itself, and the seven proper. -/
theorem eight (Φ : Fin 8 → sProp 𝕄) : bigSep Finset.univ Φ = iprop(Φ 0 ∗ bigSep Finset.univ fun w : Fin 7 => Φ w.succ) := by
  rw [seven]
  exact bigSep_univ_eq_bigSepL [0, 1, 2, 3, 4, 5, 6, 7] (by decide) (by decide) Φ
/-- A family over the devices by the steps of device `c`: itself, and its seven partners. -/
theorem by_step (Φ : Dev nD → sProp 𝕄) : bigSep Finset.univ Φ = iprop(Φ c ∗ bigSep Finset.univ fun w : Fin 7 => Φ (nbr c w)) := by
  rw [bigSep_univ_equiv (peers c) Φ, eight]
  show iprop(Φ (peer 0 c) ∗ bigSep Finset.univ fun w : Fin 7 => Φ (nbr c w)) = _
  rw [peer_zero]
/-- A family over the two banks. -/
theorem two (Φ : Fin 2 → sProp 𝕄) : bigSep Finset.univ Φ = iprop(Φ 0 ∗ Φ 1) :=
  bigSep_univ_eq_bigSepL [0, 1] (by decide) (by decide) Φ

/-! ## What a device holds before its body and after it -/

/-- The kernel's own semaphores that are used: those of the send and the receive, of the banks, of the result's blocks. -/
abbrev Own : Type := (Fin 7 ⊕ Fin 7) ⊕ (Fin 2 ⊕ Fin 4)
abbrev osem : Own → SemLoc sig
  | .inl (.inl w) => .dma (sendSem w)
  | .inl (.inr w) => .dma (recvSem w)
  | .inr (.inl p) => .dma (bankSem p)
  | .inr (.inr j) => .dma (outSem j)

/-- All of them at zero, by kind. -/
theorem ownSems0_eq : (Pipeline.ownSems0 (Ix := Unit) (Name := ℕ) (U := UU) (Lvl := ℕ) (Val := Elt F) (τ := τ) osem c : sProp 𝕄)
    = iprop((bigSep Finset.univ (fun w : Fin 7 => semVal (sendCell w c) 0) ∗ bigSep Finset.univ (fun w : Fin 7 => semVal (recvCell w c) 0))
      ∗ bigSep Finset.univ (fun p : Fin 2 => semVal ((c : Thread nD τ), .dma (bankSem p)) 0)
      ∗ bigSep Finset.univ (fun j : Fin 4 => semVal ((c : Thread nD τ), .dma (outSem j)) 0)) := by
  unfold Pipeline.ownSems0
  rw [bigSep_univ_sum, bigSep_univ_sum, bigSep_univ_sum]; rfl

/-- The semaphores of a device's own transfers at zero. -/
def freeSems (c : Dev nD) : sProp 𝕄 :=
  iprop(bigSep Finset.univ (fun p : Fin 2 => semVal ((c : Thread nD τ), .dma (bankSem p)) 0)
    ∗ bigSep Finset.univ (fun j : Fin 4 => semVal ((c : Thread nD τ), .dma (outSem j)) 0))

/-- What is a device's alone of the protocol: its own transfers' semaphores, its positions at its cells, and the duties that it pays. -/
def linear (c : Dev nD) : sProp 𝕄 :=
  iprop((bigSep Finset.univ fun k : Port => atPos ER (portCell (c, k)) 0 ∅ 0)
    ∗ ((bigSep Finset.univ fun w : Fin 7 => dutyTok ER (barCell (peer w.succ c)) 0 w) ∗ bigSep Finset.univ fun w : Fin 7 => copyKit c w)
    ∗ freeSems c)

/-- The four scratch buffers at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ ∃ f : Buf (Elt F) ((c : Thread nD τ).loc cc0_scratch3), ((c : Thread nD τ).loc cc0_scratch3) ↦{fullShare} f)

/-- What a device starts from besides its scratch buffers: its part of the protocol, its credit, the weights and the
    result's buffer. -/
def start (c : Dev nD) : sProp 𝕄 :=
  iprop((∃ K, records m K ∗ linear c) ∗ levAts L lv ∗ cred (tallyAt (barCell c) () 7)
    ∗ bigSep Finset.univ (fun w : Fin 7 => cred (tallyAt (recvCell w c) () N))
    ∗ (((c : Thread nD τ).loc main_arg1) ↦{fullShare} wIn m c) ∗ (((c : Thread nD τ).loc main_v1) ↦{fullShare} m ((c : Thread nD τ).loc main_v1)))

/-- What it ends with besides: its barrier's counter at zero, the weights as they were, the result. -/
def finish (c : Dev nD) : sProp 𝕄 :=
  iprop(semVal (barCell c) 0 ∗ (((c : Thread nD τ).loc main_arg1) ↦{fullShare} wIn m c) ∗ (((c : Thread nD τ).loc main_v1) ↦{fullShare} outVal m c))

/-- A device's positions, by kind of cell. -/
theorem positions : bigSep Finset.univ (fun k : Port => (atPos ER (portCell (c, k)) 0 ∅ 0 : sProp 𝕄))
    = iprop(atPos ER (barCell c) 0 ∅ 0 ∗ bigSep Finset.univ (fun w : Fin 7 => atPos ER (sendCell w c) 0 ∅ 0)
      ∗ bigSep Finset.univ (fun w : Fin 7 => atPos ER (recvCell w c) 0 ∅ 0)) := by
  rw [bigSep_univ_sum, bigSep_univ_sum, Finset.univ_unique (α := Unit), bigSep_singleton]
  rfl

/-- The buffers cut and the protocol's pieces dealt: what the body starts from, the receive buffer's slot 0 left over. -/
theorem enter : iprop(start m c ∗ scratch c ∗ debt c (O₀ c) ∗ xPts c (xIn m c))
    ⊢ (iprop(∃ K fr fk fa fo fs, (records m K ∗ levAts L lv ∗ bodyStart m c fr fk fa fo) ∗ slotPts c 0 fs) : sProp 𝕄) := by
  unfold start scratch linear freeSems bodyStart
  iintro ⟨⟨⟨%K, #HR, Hat, ⟨Htb, Htc⟩, ⟨Hm, Hn⟩⟩, #Hlev, Hcb, Hcr, Hw, Ho⟩, ⟨⟨%fr, Hr⟩, ⟨%fs, Hs⟩, ⟨%fk, Hk⟩, ⟨%fa, Ha⟩⟩, HO, Hx⟩
  iexists K, fr, fk, fa, (m ((c : Thread nD τ).loc main_v1)), fs
  ihave Hr := (Entails.of_eq ((cut_rows c fr).trans (by_step c fun b => rowPts c b fr))) $$ Hr
  ihave Hw := (Entails.of_eq ((cut_wrows c (wIn m c)).trans (by_step c fun b => wrowPts c b (wIn m c)))) $$ Hw
  ihave Hs := (Entails.of_eq ((cut_slots c fs).trans (eight fun s => slotPts c s fs))) $$ Hs
  ihave Hk := (Entails.of_eq ((cut_banks c fk).trans (two fun p => bankPts c p fk))) $$ Hk
  ihave Ho := (Entails.of_eq (cut_out c (m ((c : Thread nD τ).loc main_v1)))) $$ Ho
  ihave Hat := (Entails.of_eq (positions c)) $$ Hat
  ihave Hm := (Entails.of_eq (two fun p => (semVal ((c : Thread nD τ), .dma (bankSem p)) 0 : sProp 𝕄))) $$ Hm
  icases Hat with ⟨Hab, Has, Har⟩
  icases Hr with ⟨HrC, Hr⟩
  icases Hw with ⟨HwC, Hw⟩
  icases Hs with ⟨Hs0, Hs⟩
  icases Hk with ⟨Hk0, Hk1⟩
  icases Hm with ⟨Hm0, Hm1⟩
  have hkit : iprop((bigSep Finset.univ fun w : Fin 7 => dutyTok ER (barCell (peer w.succ c)) 0 w) ∗ bigSep Finset.univ fun w : Fin 7 => slotPts c w.succ fs)
      ⊢ (bigSep Finset.univ (fun w : Fin 7 => signalKit c w) : sProp 𝕄) := by
    rw [← bigSep_sep']
    refine bigSep_mono fun w _ => ?_
    show iprop(dutyTok ER (barCell (peer w.succ c)) 0 w ∗ slotPts c w.succ fs) ⊢ iprop(dutyTok ER (barCell (peer w.succ c)) 0 w ∗ ∃ f, slotPts c w.succ f)
    iintro ⟨H1, H2⟩
    isplitl [H1]; · iexact H1
    iexists fs; iexact H2
  isplitr [Hs0]
  · isplitr; · iexact HR
    isplitr; · iexact Hlev
    isplitl [HO]; · iexact HO
    isplitl [Htb Hs]
    · iapply hkit; iframe
    iframe
  iexact Hs0

/-- The blocks joined again: what the body ends with is what the device ends with. -/
theorem leave (fs) : iprop(bodyEnd m c ∗ slotPts c 0 fs)
    ⊢ (iprop((finish m c ∗ Pipeline.ownSems0 osem c ∗ scratch c) ∗ debt c 0 ∗ xPts c (xIn m c)) : sProp 𝕄) := by
  rw [ownSems0_eq]
  unfold bodyEnd finish scratch
  iintro ⟨⟨HO, Hzb, Hzr, Hzs, Hx, HrC, Hr, Hs, HwC, Hw, Hk0, Hk1, Hq, Ho, Hm0, Hm1, Hn⟩, Hs0⟩
  ihave Hr := (Entails.of_eq ((cut_rows c (xBf m c)).trans (by_step c fun b => rowPts c b (xBf m c))).symm) $$ [HrC Hr]
  · iframe
  ihave Hw := (Entails.of_eq ((cut_wrows c (wIn m c)).trans (by_step c fun b => wrowPts c b (wIn m c))).symm) $$ [HwC Hw]
  · iframe
  ihave Ho := (Entails.of_eq (cut_out c (outVal m c)).symm) $$ Ho
  ihave Ha := (Entails.of_eq (cut_acc c (outVal m c)).symm) $$ Hq
  have hsl : iprop(slotPts c 0 fs ∗ bigSep Finset.univ fun w : Fin 7 => slotPts c w.succ (received m c))
      ⊢ (iprop(∃ f, ((c : Thread nD τ).loc cc0_scratch1) ↦{fullShare} f) : sProp 𝕄) := by
    refine BIBase.Entails.trans ?_ (join_slots c fs)
    rw [eight]
    iintro ⟨H1, H2⟩
    isplitl [H1]; · iexists fs; iexact H1
    have h : (bigSep Finset.univ fun w : Fin 7 => slotPts c w.succ (received m c)) ⊢ (bigSep Finset.univ fun w : Fin 7 => iprop(∃ f, slotPts c w.succ f) : sProp 𝕄) :=
      bigSep_mono fun w _ =>
        show slotPts c w.succ (received m c) ⊢ iprop(∃ f, slotPts c w.succ f) from by iintro H; iexists _; iexact H
    iapply h; iexact H2
  have hbk : iprop(bankPts c 0 (banked m c (nbr c 5)) ∗ bankPts c 1 (banked m c (nbr c 6)))
      ⊢ (iprop(∃ f, ((c : Thread nD τ).loc cc0_scratch2) ↦{fullShare} f) : sProp 𝕄) := by
    refine BIBase.Entails.trans ?_ (join_banks c (banked m c (nbr c 5)))
    rw [two]
    iintro ⟨H1, H2⟩
    isplitl [H1] <;> (iexists _; iassumption)
  ihave Hs := hsl $$ [Hs0 Hs]
  · iframe
  ihave Hk := hbk $$ [Hk0 Hk1]
  · iframe
  rw [two]
  isplitr [HO Hx]
  · isplitl [Hzb Hw Ho]
    · iframe
    isplitl [Hzr Hzs Hm0 Hm1 Hn]
    · iframe
    isplitl [Hr]; · iexists _; iexact Hr
    isplitl [Hs]; · iexact Hs
    isplitl [Hk]; · iexact Hk
    iexists _; iexact Ha
  iframe

/-! ## The proof data -/

/-- Before the kernel's one point and after it. -/
def before (c : Dev nD) : sProp 𝕄 := iprop(start m c ∗ scratch c)
def afterwards (c : Dev nD) : sProp 𝕄 := iprop(finish m c ∗ Pipeline.ownSems0 osem c ∗ scratch c)

/-- The one staged array is read, and its staging buffer stays as it is. -/
def dats (_ : Fin 1) (c : Dev nD) : Dat τ (Elt F) Unit ℕ UU ℕ cfg0 c where
  A w := m ((cfg0.win w).arr.view.loc (c : Thread nD τ))
  after w _ := match w with
    | ⟨0, _⟩ => xIn m c
  Φ t := match t with
    | ⟨0, _⟩ => before m c
    | ⟨_ + 1, _⟩ => afterwards m c
  q _ := fullShare
  owed t := match t with
    | ⟨0, _⟩ => O₀ c
    | ⟨_ + 1, _⟩ => 0

theorem fetch_here (t : Fin cfg0.N) : (cfg0.win (0 : Fin 1)).fetch t = true := by rw [fin_N0 t]; rfl

/-- Holding a whole buffer at `X`. -/
theorem owns_buffer (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The staging buffer at `X`. -/
abbrev staged (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

set_option maxRecDepth 20000 in
/-- The body takes a device from what it holds before to what it holds afterwards. -/
theorem device_run :
    iprop(before m c ∗ (dats m 0 c).owesAt () t0_0.castSucc ∗ (∃ d, staged c ((dats m 0 c).before (0 : Fin 1) t0_0 d)))
      ⊢ run c (cc0_body (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7) fun _ => iprop(afterwards m c ∗ (dats m 0 c).owesAt () t0_0.succ ∗ staged c (xIn m c)) := by
  unfold before afterwards Dat.owesAt Pipeline.owesWithin
  rw [show (dats m 0 c).owed t0_0.castSucc = O₀ c from rfl, show (dats m 0 c).owed t0_0.succ = 0 from rfl]
  iintro ⟨⟨Hst, Hsc⟩, ⟨%W, -, HO⟩, ⟨%d, %g, %hg, Hx⟩⟩
  have hx : g = xIn m c := by rw [hg]; unfold Dat.before; rw [if_pos (fetch_here t0_0)]; rfl
  subst hx
  ihave H := (enter m c) $$ [Hst Hsc HO Hx]
  · iframe Hst Hsc Hx
    unfold debt; iexists W; iexact HO
  icases H with ⟨%K, %fr, %fk, %fa, %fo, %fs, H, Hs0⟩
  iapply (body_run m c K fr fk fa fo) $$ H
  iintro H
  ihave H := (leave m c fs) $$ [H Hs0]
  · iframe
  icases H with ⟨H, HO, Hx⟩
  isplitl [H]; · iexact H
  isplitl [HO]
  · unfold debt
    icases HO with ⟨%W', HO⟩
    iexists W'
    isplitr; · ipureintro; exact fun _ _ => Or.inl trivial
    iexact HO
  iexists _
  isplitr; · ipureintro; rfl
  iexact Hx

set_option maxRecDepth 20000 in
/-- The body's obligation as the launch asks for it. -/
theorem body_obligation : BodyObligation (dats (F := F) m 0 c) (defs₀ (F := F)) 𝒱₀ () Set.univ := fun t => by
  rw [fin_N0 t]
  rw [bigSep_W0, bigSep_W0]
  simp only [owns_buffer]
  show iprop(before m c ∗ (dats m 0 c).owesAt () t0_0.castSucc ∗ (∃ d, staged c ((dats m 0 c).before (0 : Fin 1) t0_0 d)))
      ⊢ run c (cc0_body (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7) fun _ => iprop(afterwards m c ∗ (dats m 0 c).owesAt () t0_0.succ ∗ staged c (xIn m c))
  exact device_run m c

/-! ## The last of the launch's conditions on a device -/

theorem ownSemFacts : Pipeline.OwnSemFacts cfg0.spec osem := by decide
theorem share_eq (w : Fin cfg0.W) : (dats m 0 c).share w = fullShare := by unfold Dat.share; split <;> rfl

end Cert.Exchange

end
-- ==== Proof.Launch.lean ====
/-
# The launch

The protocol's ghost state made and dealt to the devices, the credit counted, and the run of the whole program.
-/
module

public import proofs.«01_k».proof.Proof.Device
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

/-! ## The protocol's ghost state, made -/

theorem portSem_injective : Function.Injective portSem := by decide
theorem portCell_injective : Function.Injective (portCell : Dev nD × Port → GSem nD τ sig) := by
  rintro ⟨c, k⟩ ⟨c', k'⟩ h
  exact Prod.ext (congrArg (fun g : GSem nD τ sig => g.1.1) h) (portSem_injective (congrArg Prod.snd h))
/-- The cells that the protocol runs on. -/
def ports : Finset (GSem nD τ sig) := Finset.univ.map ⟨portCell, portCell_injective⟩

/-- The duties of a device's own cells: seven at its barrier, one at each send and each receive cell. -/
abbrev dutyOf (x : Dev nD × (Fin 7 ⊕ (Fin 7 ⊕ Fin 7))) : GSem nD τ sig × ℕ × Fin 7 := match x.2 with
  | .inl w => (barCell x.1, 0, w)
  | .inr (.inl w) => (sendCell w x.1, 0, 0)
  | .inr (.inr w) => (recvCell w x.1, 0, 0)
theorem dutyOf_injective : Function.Injective dutyOf := by
  have key : ∀ k k' : Fin 7 ⊕ (Fin 7 ⊕ Fin 7), (dutyOf (0, k)).1.2 = (dutyOf (0, k')).1.2 → (dutyOf (0, k)).2.2 = (dutyOf (0, k')).2.2 → k = k' := by decide
  have sem : ∀ (c : Dev nD) k, (dutyOf (c, k)).1.2 = (dutyOf (0, k)).1.2 ∧ (dutyOf (c, k)).2.2 = (dutyOf (0, k)).2.2 ∧ (dutyOf (c, k)).1.1.1 = c := by
    rintro c (w | w | w) <;> exact ⟨rfl, rfl, rfl⟩
  rintro ⟨c, k⟩ ⟨c', k'⟩ h
  have hc : c = c' := by
    rw [← (sem c k).2.2, ← (sem c' k').2.2, h]
  subst hc
  have hk : k = k' := key k k' (by rw [← (sem c k).1, ← (sem c k').1, h]) (by rw [← (sem c k).2.1, ← (sem c k').2.1, h])
  subst hk
  rfl
def duties : Finset (GSem nD τ sig × ℕ × Fin 7) := Finset.univ.map ⟨dutyOf, dutyOf_injective⟩

/-- The launch's element: the pipeline's cells, the protocol's, no transfer yet. -/
def u₀ : UU :=
  (initOf (Pipeline.cells cfgs cellOf_inj) (Pipeline.launchToks cfgs cellOf_inj), (initOf ports duties, 1))

/-- The tokens of the duties at a device's own cells. -/
def ownDuties (c : Dev nD) : sProp 𝕄 :=
  iprop((bigSep Finset.univ fun w : Fin 7 => dutyTok ER (barCell c) 0 w)
    ∗ (bigSep Finset.univ fun w : Fin 7 => dutyTok ER (sendCell w c) 0 0) ∗ bigSep Finset.univ fun w : Fin 7 => dutyTok ER (recvCell w c) 0 0)

/-- What a device is dealt of the launch's element. -/
def dealt (c : Dev nD) : sProp 𝕄 :=
  iprop((bigSep Finset.univ fun k : Port => roundState ER (exchange m) (portCell (c, k)) 0)
    ∗ (bigSep Finset.univ fun k : Port => iprop(atPos ER (portCell (c, k)) 0 ∅ 0 ∗ reached ER (portCell (c, k)) 0)) ∗ ownDuties c)

/-- The launch's element deals every device its part. -/
theorem deal : BI.own (ER (initOf ports duties)) ⊢ (|==> bigSep Finset.univ (dealt m) : sProp 𝕄) := by
  have hP (Φ : GSem nD τ sig → sProp 𝕄) : bigSep ports Φ = bigSep Finset.univ fun c : Dev nD => bigSep Finset.univ fun k : Port => Φ (portCell (c, k)) := by
    unfold ports; rw [bigSep_map, bigSep_univ_prod]; rfl
  have hD : bigSep duties (fun x => (dutyTok ER x.1 x.2.1 x.2.2 : sProp 𝕄)) = bigSep Finset.univ fun c : Dev nD => ownDuties c := by
    unfold duties; rw [bigSep_map, bigSep_univ_prod]
    exact bigSep_congr fun c _ => by unfold ownDuties; rw [bigSep_univ_sum, bigSep_univ_sum]; rfl
  iintro H
  imod (Rounds.fund ER (exchange m) ports duties) $$ H with ⟨Hst, Hr, Hat, Htok⟩
  imodintro
  ihave Hst := (Entails.of_eq (hP fun g => roundState ER (exchange m) g 0)) $$ Hst
  ihave Hat := (Entails.of_eq (hP fun g => atPos ER g 0 ∅ 0)) $$ Hat
  ihave Hr := (Entails.of_eq (hP fun g => reached ER g 0)) $$ Hr
  ihave Htok := (Entails.of_eq hD) $$ Htok
  unfold dealt; simp only [bigSep_sep']
  iframe

/-! ## The cells opened, their duties dealt to who pays them -/

/-- The runtime's barrier semaphore is the launch's one unscoped semaphore. -/
theorem unscopedSems0_eq : (unscopedSems0 c : sProp 𝕄) = semVal (barCell c) 0 := by
  unfold unscopedSems0; rw [bigSep_eq_bigSepL_of_eq [SemLoc.reg barS] (by decide) (by decide)]; rfl

/-- A device's cells opened at their zero counters; its own transfers' semaphores stay as they are. -/
theorem open_cells :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (exchange m) κ (portCell (c, k))))
          ∗ (bigSep Finset.univ fun k => iprop(atPos ER (portCell (c, k)) 0 ∅ 0 ∗ reached ER (portCell (c, k)) 0)) ∗ ownDuties c ∗ freeSems c) := by
  have hsem : iprop(semVal (barCell c) 0 ∗ bigSep Finset.univ (fun w : Fin 7 => semVal (sendCell w c) 0) ∗ bigSep Finset.univ (fun w : Fin 7 => semVal (recvCell w c) 0))
      = (bigSep Finset.univ fun k : Port => semVal (portCell (c, k)) 0 : sProp 𝕄) := by
    rw [bigSep_univ_sum, bigSep_univ_sum, Finset.univ_unique (α := Unit), bigSep_singleton]; rfl
  have hopen : iprop((bigSep Finset.univ fun k : Port => semVal (portCell (c, k)) 0) ∗ bigSep Finset.univ fun k : Port => roundState ER (exchange m) (portCell (c, k)) 0)
      ⊢ (|={Set.univ}=> bigSep Finset.univ fun k => iprop(∃ κ : ℕ, cellInv ER (exchange m) κ (portCell (c, k))) : sProp 𝕄) := by
    rw [← bigSep_sep']
    exact (bigSep_mono fun k _ => (Rounds.body_intro ER (exchange m) (portCell (c, k))).trans inv_alloc).trans (bigSep_fupd _ _)
  rw [ownSems0_eq, unscopedSems0_eq]
  unfold dealt freeSems
  iintro ⟨⟨⟨Hs, Hr⟩, Hm, Hn⟩, Hb, Hst, Hat, Htok⟩
  ihave Hv := (Entails.of_eq hsem) $$ [Hs Hr Hb]
  · iframe
  imod hopen $$ [Hv Hst] with Hinv
  · iframe
  imodintro
  iframe

/-- Every pair of a device and a step goes to the device's partner of that step. -/
def moved : Dev nD × Fin 7 ≃ Dev nD × Fin 7 where
  toFun x := (peer x.2.succ x.1, x.2)
  invFun x := (peer x.2.succ x.1, x.2)
  left_inv x := Prod.ext (peer_peer x.2.succ x.1) rfl
  right_inv x := Prod.ext (peer_peer x.2.succ x.1) rfl
/-- A family over devices and steps, each member moved to the device's partner of its step. -/
theorem across (Φ : Fin 7 → Dev nD → sProp 𝕄) :
    (bigSep Finset.univ fun c : Dev nD => bigSep Finset.univ fun w : Fin 7 => Φ w c)
      = bigSep Finset.univ fun c : Dev nD => bigSep Finset.univ fun w : Fin 7 => Φ w (peer w.succ c) := by
  rw [← bigSep_univ_prod (fun x : Dev nD × Fin 7 => Φ x.2 x.1), bigSep_univ_equiv moved, bigSep_univ_prod]
  rfl

/-- The duties dealt: a barrier's and a receive cell's to the partner, a send cell's stays. -/
theorem duties_across : (bigSep Finset.univ fun c : Dev nD => (ownDuties c : sProp 𝕄))
    ⊢ bigSep Finset.univ fun c : Dev nD => iprop((bigSep Finset.univ fun w : Fin 7 => dutyTok ER (barCell (peer w.succ c)) 0 w)
        ∗ bigSep Finset.univ fun w : Fin 7 => copyKit c w) := by
  unfold ownDuties copyKit
  simp only [bigSep_sep']
  rw [across fun w c => dutyTok ER (barCell c) 0 w, across fun w c => dutyTok ER (recvCell w c) 0 0]

/-- A persistent fact goes to every member. -/
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  BIBase.Entails.trans (sep_mono_left (BI.bigSep_of_persistent S R)) (by rw [← bigSep_sep']; exact bigSep_mono h)

/-- What the launch hands a device: every cell's record, and what is its alone. -/
def handed (c : Dev nD) : sProp 𝕄 := iprop(∃ K, records m K ∗ linear c)

/-- All devices' cells opened and their duties dealt. -/
theorem set_up : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (handed m) := by
  refine BIBase.Entails.trans (BIBase.Entails.trans (bigSep_mono fun c _ => open_cells m c) (bigSep_fupd _ _)) (BI.fupd_mono ?_)
  simp only [bigSep_sep']
  rw [← bigSep_univ_prod (fun ck : Dev nD × Port => iprop(∃ κ : ℕ, cellInv ER (exchange m) κ (portCell ck))),
    ← bigSep_univ_prod (fun ck : Dev nD × Port => (reached ER (portCell ck) 0 : sProp 𝕄))]
  iintro ⟨HI, ⟨Hat, #HR⟩, Htok, Hfree⟩
  ihave HK := (BI.bigSep_exists_pi Finset.univ (fun (ck : Dev nD × Port) (κ : ℕ) => (cellInv ER (exchange m) κ (portCell ck) : sProp 𝕄))) $$ HI
  icases HK with ⟨%K, #HI⟩
  ihave Htok := duties_across $$ Htok
  iapply (to_each (R := records m K) (Φ := fun c => linear c) fun c _ => show iprop(records m K ∗ linear c) ⊢ handed m c from by
    unfold handed; iintro H; iexists K; iexact H)
  isplitr
  · unfold records; isplitl; · iexact HI
    iexact HR
  · unfold linear
    simp only [bigSep_sep']
    iframe

/-! ## The launch's credit -/

theorem sum_order (f : Fin 7 → ℕ) : (order.map f).sum = ∑ w, f w := by
  rw [Fin.sum_univ_seven]
  simp only [order, List.map_cons, List.map_nil, List.sum_cons, List.sum_nil]
  omega

theorem bar_eq_iff {a b : Dev nD} : barCell a = barCell b ↔ a = b :=
  ⟨fun h => congrArg (fun g : GSem nD τ sig => g.1.1) h, fun h => h ▸ rfl⟩
theorem recv_eq_iff {v w : Fin 7} {a b : Dev nD} : recvCell v a = recvCell w b ↔ v = w ∧ a = b :=
  ⟨fun h => by
    have e := portCell_injective (show portCell (a, recvPort v) = portCell (b, recvPort w) from h)
    exact ⟨Sum.inr.inj (Sum.inr.inj (congrArg Prod.snd e)), congrArg Prod.fst e⟩, fun h => by rw [h.1, h.2]⟩
theorem recv_ne_bar {w : Fin 7} {a b : Dev nD} : recvCell w a ≠ barCell b := fun h => by
  have e := congrArg Prod.snd (portCell_injective (show portCell (a, recvPort w) = portCell (b, barPort) from h))
  exact absurd e (by simp)

/-- Of the copies no barrier is owed anything. -/
theorem copies_bar (d : Dev nD) (l : List (Fin 7)) : owedCopies d l (barCell c) () = 0 :=
  Nat.eq_zero_of_not_pos fun h => by obtain ⟨w, e⟩ := owedCopies_pos h; exact recv_ne_bar e.symm
theorem signals_bar (d : Dev nD) (l : List (Fin 7)) :
    owedSignals d l (barCell c) () = (l.map fun w => if c = peer w.succ d then 1 else 0).sum := by
  induction l with
  | nil => exact copies_bar c d order
  | cons w l ih =>
    unfold owedSignals
    rw [Pi.add_apply, Finsupp.add_apply, ih, tallyAt_apply, List.map_cons, List.sum_cons, Nat.add_comm]
    congr 1
    exact if_congr (by rw [bar_eq_iff]; exact and_iff_left rfl) rfl rfl
theorem copies_recv (v : Fin 7) (d : Dev nD) (l : List (Fin 7)) :
    owedCopies d l (recvCell v c) () = (l.map fun w => if v = w ∧ c = peer w.succ d then N else 0).sum := by
  induction l with
  | nil => rfl
  | cons w l ih =>
    unfold owedCopies
    rw [Pi.add_apply, Finsupp.add_apply, ih, tallyAt_apply, List.map_cons, List.sum_cons, Nat.add_comm]
    congr 1
    exact if_congr (by rw [recv_eq_iff]; exact and_iff_left rfl) rfl rfl
theorem signals_recv (v : Fin 7) (d : Dev nD) (l : List (Fin 7)) :
    owedSignals d l (recvCell v c) () = owedCopies d order (recvCell v c) () := by
  induction l with
  | nil => rfl
  | cons w l ih =>
    unfold owedSignals
    rw [Pi.add_apply, Finsupp.add_apply, ih, tallyAt_ne_cell recv_ne_bar, Finsupp.zero_apply, Nat.add_zero]

theorem peer_iff (s : Fin 8) (d : Dev nD) : c = peer s d ↔ d = peer s c :=
  ⟨fun h => by rw [h, peer_peer], fun h => by rw [h, peer_peer]⟩
/-- One device of the mesh is a device's partner at a step. -/
theorem sum_peer (s : Fin 8) (n : ℕ) : (∑ d : Dev nD, if c = peer s d then n else 0) = n := by
  rw [Finset.sum_congr rfl fun d _ => if_congr (peer_iff c s d) rfl rfl, Finset.sum_ite_eq' Finset.univ (peer s c) fun _ => n, if_pos (Finset.mem_univ _)]

/-- A device's barrier is owed seven units in all. -/
theorem launch_bar :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  unfold O₀
  rw [Finset.sum_congr rfl fun d _ => (signals_bar c d order).trans (sum_order _), Finset.sum_comm,
    Finset.sum_congr rfl fun w _ => sum_peer c (Fin.succ w) 1]
  rfl
/-- Each of its receive cells is owed one copy. -/
theorem launch_recv (v : Fin 7) :
    tallyOn (recvCell v c) (launchCredit (Pipeline.owing O₀) 0 (recvCell v c)) = (tallyAt (recvCell v c) () N : CellTallies nD τ sig Unit) := by
  unfold tallyAt; refine congrArg _ (Finsupp.ext fun u => ?_); cases u
  rw [Pipeline.launchCredit_owing, Finsupp.single_eq_same]
  unfold O₀
  rw [Finset.sum_congr rfl fun d _ => ((signals_recv c v d order).trans (copies_recv c v d order)).trans (sum_order _), Finset.sum_comm,
    Finset.sum_eq_single v (fun w _ hw => Finset.sum_eq_zero fun d _ => if_neg fun h => hw h.1.symm) fun h => absurd (Finset.mem_univ _) h]
  rw [Finset.sum_congr rfl fun d _ => if_congr (and_iff_right rfl) rfl rfl]
  exact sum_peer c v.succ N

/-- The launch's credit holds that of the barrier and of the receive cells. -/
theorem credits : (Pipeline.launchCred O₀ c : sProp 𝕄)
    ⊢ iprop(cred (tallyAt (barCell c) () 7) ∗ bigSep Finset.univ fun w : Fin 7 => cred (tallyAt (recvCell w c) () N)) := by
  unfold Pipeline.launchCred
  refine BIBase.Entails.trans (bigSep_subset (Finset.subset_univ ((Finset.univ : Finset Port).map ⟨portSem, portSem_injective⟩))) ?_
  rw [bigSep_map, bigSep_univ_sum, bigSep_univ_sum, Finset.univ_unique (α := Unit), bigSep_singleton]
  have hb := Entails.of_eq (congrArg (fun t => (cred t : sProp 𝕄)) (launch_bar c))
  have hr : (bigSep Finset.univ fun w : Fin 7 => cred (tallyOn (recvCell w c) (launchCredit (Pipeline.owing O₀) 0 (recvCell w c))))
      = (bigSep Finset.univ fun w : Fin 7 => cred (tallyAt (recvCell w c) () N) : sProp 𝕄) :=
    bigSep_congr fun w _ => congrArg _ (launch_recv c w)
  refine BI.sep_mono hb (BIBase.Entails.trans ?_ (Entails.of_eq hr))
  show iprop((bigSep Finset.univ fun w : Fin 7 => cred (tallyOn (sendCell w c) (launchCredit (Pipeline.owing O₀) 0 (sendCell w c))))
      ∗ bigSep Finset.univ fun w : Fin 7 => cred (tallyOn (recvCell w c) (launchCredit (Pipeline.owing O₀) 0 (recvCell w c)))) ⊢ _
  iintro ⟨-, H⟩
  iexact H

/-! ## The run of the whole program -/

theorem start_intro (ρ : Dev nD → PrngReg) :
    iprop(Pipeline.unscopedRestP Pipeline.Prefetch.none cfg0.spec c (fun b => m ((c : Thread nD τ).loc b)) ∗ levAts L lv
        ∗ Pipeline.launchCred O₀ c ∗ prngReg c (ρ c) ∗ handed m c)
      ⊢ |={Set.univ}=> iprop(start m c ∗ emp) := by
  rw [Pipeline.unscopedRestP_none, show cfg0.spec = spec0 from rfl, unscopedRest0_eq]
  iintro ⟨⟨Hw, Ho⟩, Hlev, Hcr, -, HG⟩
  ihave Hc := (credits c) $$ Hcr
  icases Hc with ⟨H1, HN⟩
  imodintro
  unfold start handed
  isplitl
  · isplitl [HG]; · iexact HG
    isplitl [Hlev]; · iexact Hlev
    isplitl [H1]; · iexact H1
    isplitl [HN]; · iexact HN
    isplitl [Hw]; · iexact Hw
    iexact Ho
  · iempintro

theorem scratch_eq : (Pipeline.scopedRest cfg0.spec c : sProp 𝕄) = scratch c := scopedRest0_eq c

theorem before_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scratch_eq]
  unfold before
  iintro ⟨Hs, -, Hr⟩
  iframe

theorem afterwards_elim :
    (dats m 0 c).Φ (Fin.last cfg0.N) ⊢ iprop(finish m c ∗ Pipeline.ownSems0 osem c ∗ Pipeline.scopedRest cfg0.spec c) := by
  rw [show (dats m 0 c).Φ (Fin.last cfg0.N) = afterwards m c from rfl, scratch_eq]
  unfold afterwards
  exact .rfl

theorem waits : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr rfl)

/-- What a final memory is read to hold of a device: its barrier at zero, the weights as they were, the result. -/
def Ends (c : Dev nD) (s : MemSt nD τ sig (Elt F)) : Prop :=
  (∀ sm : SemLoc sig, sm.isScoped .tc = false → s.sem ((c.tc : Thread nD τ), sm) = 0)
    ∧ s.mem ((c : Thread nD τ).loc main_arg1) = wIn m c ∧ s.mem ((c : Thread nD τ).loc main_v1) = outVal m c

theorem read_ends (s' : Phys nD τ sig (Elt F)) : iprop(finish m c ∗ emp ∗ SI s') ⊢ (|={Set.univ}=> iprop(⌜Ends m c s'.mem⌝ ∗ SI s') : sProp 𝕄) := by
  unfold finish
  rw [← unscopedSems0_eq]
  iintro ⟨⟨Hb, Hw, Ho⟩, -, HSI⟩
  imod (Pipeline.unscopedSems0_read (X := unscopedSems0 c) (c := c) fupd_intro s') $$ [Hb HSI] with ⟨%hb, HSI⟩
  · isplitl [Hb] <;> iassumption
  ihave Hr := (pointsTo_read_all ({()} : Finset Unit) (fun _ => (c : Thread nD τ).loc main_arg1) (fun _ => wIn m c) s') $$ [Hw HSI]
  · rw [bigSep_singleton]; isplitl [Hw] <;> iassumption
  icases Hr with ⟨%hw, HSI⟩
  ihave Hr := (pointsTo_read_all ({()} : Finset Unit) (fun _ => (c : Thread nD τ).loc main_v1) (fun _ => outVal m c) s') $$ [Ho HSI]
  · rw [bigSep_singleton]; isplitl [Ho] <;> iassumption
  icases Hr with ⟨%ho, HSI⟩
  imodintro
  isplitr
  · ipureintro
    exact ⟨hb, hw () (Finset.mem_singleton_self _), ho () (Finset.mem_singleton_self _)⟩
  · iexact HSI

/-- The launch's element split between the pipeline and the protocol. -/
theorem fund : (ownU u₀ : sProp 𝕄)
    ⊢ |={Set.univ}=> iprop(BI.own (EP (initOf (Pipeline.cells cfgs cellOf_inj) (Pipeline.launchToks cfgs cellOf_inj))) ∗ bigSep Finset.univ (dealt m)) := by
  unfold u₀
  iintro Hu
  ihave H := (ownU_pair _ _) $$ Hu
  icases H with ⟨HP, HX⟩
  ihave HX := (own_pair_emb embR (initOf ports duties) 1) $$ HX
  icases HX with ⟨HX, -⟩
  ihave HX := (show BI.own ((Emb.trans (Emb.inl : Emb UB (UB × Counters)) embR) (initOf ports duties)) ⊢ (BI.own (ER (initOf ports duties)) : sProp 𝕄) from .rfl) $$ HX
  imod (deal m) $$ HX with HG
  imodintro
  isplitl [HP] <;> iassumption

set_option maxRecDepth 20000 in
/-- From any memory, for any float values: every fair execution of the eight devices terminates; the arguments are
    unchanged, device `c`'s result is `outVal m c`, and every semaphore counter is zero. -/
theorem run_main (ρ : Dev nD → PrngReg) : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1) ∧ r.2.mem ((c : Thread nD τ).loc main_v1) = outVal m c)
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := handed m) (u₀ := u₀) (hu₀ := fund m) (hglob := set_up m)
    (hA := fun _ _ => rfl) (hpf := fun _ k => k.elim0)
    (X := start m) (Y := finish m) (Z := fun _ => iprop(emp))
    (hX := fun c => start_intro m c ρ) (hin := before_intro m) (hout := afterwards_elim m)
    (QY := Ends m) (hY := read_ends m)
    (hQ := fun s h hs => ⟨fun c => ⟨((h c).1 (0 : Fin 1)).trans ((dats m 0 c).arrAt_in (0 : Fin 1) rfl _), (h c).2.2.2.1, (h c).2.2.2.2⟩,
      sem_eq_zero hs fun c => (h c).2.2.1⟩)

end Cert.Exchange

end
-- ==== Proof.Value.lean ====
/-
# What the program computes, over the extended reals

An element of device `c`'s block of the result is the activation of a sum over the devices `b` of the products of row
`512 c + r` of device `b`'s columns of `x` with a column of the weights' rows at `512 b`. The order in which the kernel
takes the devices, and its cut of the last step into blocks of columns, do not matter.
-/
module

public import proofs.«01_k».proof.Proof.Contents
public import Idealize.ShloMosaic.Lib.Pointwise

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

open Idealize.ShloMosaic.Pointwise

variable (m : (ℓ : Loc nD τ sig) → Buf (Elt Ideal) ℓ)

/-- The kernel's activation, on one number. -/
def act (z : EReal) : EReal :=
  Ideal.ofBits .f32 0x3F000000#32 * z * (Ideal.ofBits .f32 0x3F800000#32 + Ideal.tanh (Ideal.ofBits .f32 0x3F4C422A#32 * (z + Ideal.ofBits .f32 0x3D372713#32 * z * z * z)))

variable (c : Dev nD)

/-! ## The payloads at an element -/

/-- The first step's: a row times a column. -/
theorem first_apply (a : Vec Ideal S512x512 .bf16) (w : Vec Ideal S1x512x2048 .f32) (i : S512x2048.Idx) :
    k0_pay11 a w i = ∑ k : Fin 512, a (ix2 (i 0) k) * w (ix3 0 k (i 1)) := by
  pointwise [k0_pay11]
/-- The next steps': a row times a column added. -/
theorem next_apply (a : Vec Ideal S1x512x512 .bf16) (w : Vec Ideal S1x512x2048 .f32) (f : Vec Ideal S512x2048 .f32) (i : S512x2048.Idx) :
    k0_pay12 a w f i = f i + ∑ k : Fin 512, a (ix3 0 (i 0) k) * w (ix3 0 k (i 1)) := by
  pointwise [k0_pay12]

/-- Column `512 j + x 1`. -/
def colAt (j : Fin 4) (x : S512x512.Idx) : Fin 2048 :=
  ⟨512 * j.val + (x 1).val, by have h : (x 1).val < 512 := (x 1).isLt; omega⟩
/-- The last step's: the activation of the sum with a row times a column of the block of columns. -/
def lastVal (a : Vec Ideal S1x512x512 .bf16) (w : Vec Ideal S1x512x2048 .f32) (f : Vec Ideal S512x512 .f32) (j : Fin 4) (x : S512x512.Idx) : EReal :=
  act (f x + ∑ k : Fin 512, a (ix3 0 (x 0) k) * w (ix3 0 k (colAt j x)))

section Last
variable (a : Vec Ideal S1x512x512 .bf16) (w : Vec Ideal S1x512x2048 .f32) (f : Vec Ideal S512x512 .f32) (x : S512x512.Idx)

theorem last0 : k0_pay23 a w f x = lastVal a w f 0 x := by
  unfold lastVal act
  rw [show colAt 0 x = ⟨(x 1).val, by have h : (x 1).val < 512 := (x 1).isLt; omega⟩ from Fin.ext (Nat.zero_add _)]
  pointwise [k0_pay23, k0_pay22, k0_pay21]
theorem last1 : k0_pay25 (k0_pay24 a w) f x = lastVal a w f 1 x := by
  unfold lastVal act colAt
  pointwise [k0_pay25, k0_pay24, k0_pay22, k0_pay21]
theorem last2 : k0_pay27 (k0_pay26 (k0_pay21 a) (k0_pay22 w) f) x = lastVal a w f 2 x := by
  unfold lastVal act colAt
  pointwise [k0_pay27, k0_pay26, k0_pay22, k0_pay21]
theorem last3 : k0_pay28 (k0_pay21 a) (k0_pay22 w) f x = lastVal a w f 3 x := by
  unfold lastVal act colAt
  pointwise [k0_pay28, k0_pay22, k0_pay21]
end Last

/-! ## One step's product -/

/-- Row `512 c + r` of the whole. -/
def rowAt (c : Dev nD) (r : Fin 512) : Fin 4096 := ⟨512 * c.val + r.val, by have h : c.val < 8 := c.isLt; omega⟩
/-- Device `c`'s columns of `x` and the weights, as arrays of numbers. -/
abbrev xNum (c : Dev nD) : Vec Ideal S4096x512 .f32 := xIn m c
abbrev wNum (c : Dev nD) : Vec Ideal S4096x2048 .f32 := wIn m c
/-- What device `b`'s columns of `x` add to the element of row `r` and column `q` of device `c`'s block. -/
def term (c b : Dev nD) (r : Fin 512) (q : Fin 2048) : EReal :=
  ∑ k : Fin 512, xNum m b (ix2 (rowAt c r) k) * wNum m c (ix2 (rowAt b k) q)

theorem rows_ix (b : Dev nD) (r k : Fin 512) : ((rows b).emb (ix2 r k) : S4096x512.Idx) = ix2 (rowAt b r) k := by
  funext a
  refine Fin.ext ?_
  fin_cases a
  · show 512 * b.val + 1 * r.val = 512 * b.val + r.val; omega
  · show 0 + 1 * k.val = k.val; omega
theorem wrows_ix (b : Dev nD) (k : Fin 512) (q : Fin 2048) : ((wrows b).emb (ix2 k q) : S4096x2048.Idx) = ix2 (rowAt b k) q := by
  funext a
  refine Fin.ext ?_
  fin_cases a
  · show 512 * b.val + 1 * k.val = 512 * b.val + k.val; omega
  · show 0 + 1 * q.val = q.val; omega
theorem cols_ix (j : Fin 4) (x : S512x512.Idx) : ((cols j).emb x : S512x2048.Idx) = ix2 (x 0) (colAt j x) := by
  funext a
  refine Fin.ext ?_
  fin_cases a
  · show 0 + 1 * (x 0).val = (x 0).val; omega
  · show 512 * j.val + 1 * (x 1).val = 512 * j.val + (x 1).val; omega
theorem tail_ix3 {n p : ℕ} (r : Fin n) (k : Fin p) : (fun a : Fin 2 => (ix3 (0 : Fin 1) r k : (⟨3, ![1, n, p]⟩ : Shape).Idx) a.succ : (⟨2, ![n, p]⟩ : Shape).Idx) = ix2 r k := by
  funext a
  fin_cases a <;> rfl

/-- The rounding changes no number, so each load reads numbers of the arrays. -/
theorem own_elem (r k : Fin 512) : xbVal m c c (ix2 r k) = xNum m c (ix2 (rowAt c r) k) :=
  congrArg (xNum m c) (rows_ix c r k)
theorem slot_elem (s : Fin 8) (r k : Fin 512) : slotVal m c s (ix3 0 r k) = xNum m (peer s c) (ix2 (rowAt c r) k) :=
  congrArg (xNum m (peer s c)) ((congrArg (rows c).emb (tail_ix3 r k)).trans (rows_ix c r k))
theorem w_elem (b : Dev nD) (k : Fin 512) (q : Fin 2048) : wVal m c b (ix3 0 k q) = wNum m c (ix2 (rowAt b k) q) :=
  congrArg (wNum m c) ((congrArg (wrows b).emb (tail_ix3 k q)).trans (wrows_ix b k q))

/-- The products of the first step and of the next ones. -/
theorem own_term (r : Fin 512) (q : Fin 2048) :
    (∑ k : Fin 512, xbVal m c c (ix2 r k) * wVal m c c (ix3 0 k q)) = term m c c r q :=
  Finset.sum_congr rfl fun k _ => by rw [own_elem, w_elem]
theorem slot_term (s : Fin 8) (r : Fin 512) (q : Fin 2048) :
    (∑ k : Fin 512, slotVal m c s (ix3 0 r k) * wVal m c (peer s c) (ix3 0 k q)) = term m c (peer s c) r q :=
  Finset.sum_congr rfl fun k _ => by rw [slot_elem, w_elem]

/-! ## The sum over the steps -/

/-- The accumulator after the steps of a list. -/
theorem acc_apply (l : List (Fin 8)) (r : Fin 512) (q : Fin 2048) :
    accAfter m c l (ix2 r q) = term m c c r q + (l.map fun s => term m c (peer s c) r q).sum := by
  induction l with
  | nil =>
    rw [List.map_nil, List.sum_nil, add_zero, ← own_term]
    exact first_apply _ _ _
  | cons s l ih =>
    rw [List.map_cons, List.sum_cons, add_comm (term m c (peer s c) r q), ← add_assoc, ← ih, ← slot_term]
    exact next_apply _ _ _ _

theorem out_block_apply (j : Fin 4) (x : S512x512.Idx) :
    outBlock m c j x = lastVal (slotVal m c 7) (wVal m c (peer 7 c)) (colVal (accLast m c) j) j x := by
  fin_cases j
  · exact last0 _ _ _ x
  · exact last1 _ _ _ x
  · exact last2 _ _ _ x
  · exact last3 _ _ _ x

theorem col_elem (f : Vec Ideal S512x2048 .f32) (j : Fin 4) (x : S512x512.Idx) : colVal f j x = f (ix2 (x 0) (colAt j x)) :=
  congrArg f (cols_ix j x)

/-- An element of device `c`'s result: the activation of the sum over the devices. -/
theorem out_apply (r : Fin 512) (q : Fin 2048) : outVal m c (ix2 r q) = act (∑ b : Dev nD, term m c b r q) := by
  have hq : colAt (ofBlock (ix2 r q)) (inBlock (ix2 r q)) = q := Fin.ext (Nat.div_add_mod _ _)
  have hr : (inBlock (ix2 r q)) 0 = r := rfl
  show outBlock m c (ofBlock (ix2 r q)) (inBlock (ix2 r q)) = _
  rw [out_block_apply]
  unfold lastVal
  rw [col_elem, hq, hr, show accLast m c (ix2 r q) = _ from acc_apply m c [6, 5, 3, 4, 2, 1] r q]
  refine congrArg act ?_
  rw [slot_term, ← Equiv.sum_comp (peers c), Fin.sum_univ_eight]
  show term m c c r q + ([6, 5, 3, 4, 2, 1].map fun s => term m c (peer s c) r q).sum + term m c (peer 7 c) r q
    = term m c (peer 0 c) r q + term m c (peer 1 c) r q + term m c (peer 2 c) r q + term m c (peer 3 c) r q
      + term m c (peer 4 c) r q + term m c (peer 5 c) r q + term m c (peer 6 c) r q + term m c (peer 7 c) r q
  rw [peer_zero]
  simp only [List.map_cons, List.map_nil, List.sum_cons, List.sum_nil, add_zero]
  ac_rfl

end Cert.Exchange

end
-- ==== Proof.Reference.lean ====
/-
# The reference

What the reference computes over the extended reals, element by element, and that device `c`'s block of rows of it is
what device `c` computes: the sum over the 4096 columns of `x` is the sum over the devices of the sums over their
columns.
-/
module

public import proofs.«01_k».proof.Proof.Value
public import proofs.«01_k».proof.Proof.Gen.ReferenceIdeal.Run
public import Idealize.ShloMosaic.Lib.Layout

@[expose] public section

noncomputable section

namespace Cert.Exchange

open Idealize.ShloMosaic
open Idealize.ShloMosaic.TcCoe
open Idealize.ShloMosaic.Pointwise
open Cert.ReferenceIdeal.Gen

/-- The whole arrays. -/
abbrev WholeX : Shape := ⟨2, ![4096, 4096]⟩
abbrev WholeY : Shape := ⟨2, ![4096, 2048]⟩

variable (X : FVec Ideal WholeX .f32) (W : FVec Ideal WholeY .f32)

/-- An element of the product. -/
def dot (R : Fin 4096) (q : Fin 2048) : EReal := ∑ k : Fin 4096, X (ix2 R k) * W (ix2 k q)

/-- The reference's result: the activation of the product. -/
def refVal : Vec Ideal WholeY .f32 := fun i => act (dot X W (i 0) (i 1))

section Program
open Cert.ReferenceIdeal

/-- The product as the program takes it. -/
abbrev prod : FVec Ideal S4096x2048 .f32 := Host.dotGeneral dot_S4096x4096_S4096x2048_S4096x2048_1_0_0_1_n_n none X W

theorem prod_apply (i : S4096x2048.Idx) : prod X W i = dot X W (i 0) (i 1) := by
  unfold prod dot
  pointwise

/-- The operations that follow the product, one number at a time. -/
theorem program_eq : mulf (mulf (broadcastInDim S4096x2048 ![] bcast_S_S4096x2048 (constant S_ .f32 0x3F000000#32)) (prod X W)) (addf (broadcastInDim S4096x2048 ![] bcast_S_S4096x2048 (constant S_ .f32 0x3F800000#32)) (Host.tanh (mulf (broadcastInDim S4096x2048 ![] bcast_S_S4096x2048 (constant S_ .f32 0x3F4C422A#32)) (addf (prod X W) (mulf (broadcastInDim S4096x2048 ![] bcast_S_S4096x2048 (constant S_ .f32 0x3D372713#32)) (mulf (mulf (prod X W) (prod X W)) (prod X W)))))))
    = refVal X W := by
  funext i
  have hp := prod_apply X W i
  unfold refVal
  rw [← hp]
  generalize prod X W = P
  unfold act
  rw [mul_assoc (Ideal.ofBits .f32 0x3D372713#32 * P i), mul_assoc (Ideal.ofBits .f32 0x3D372713#32), ← mul_assoc (P i)]
  rfl

end Program

/-! ## Device `c`'s block -/

section Block
open Cert.KernelIdeal
variable (m : (ℓ : Loc nD τ sig) → Buf (Elt Ideal) ℓ)

/-- A sum over the columns of `x` is the sum over the devices of the sums over their columns. -/
theorem sum_columns (f : Fin 4096 → EReal) : ∑ k, f k = ∑ b : Dev nD, ∑ k : Fin 512, f (rowAt b k) := by
  rw [← Fintype.sum_prod_type', ← Equiv.sum_comp (finProdFinEquiv (m := 8) (n := 512))]
  refine Finset.sum_congr rfl fun x _ => congrArg f (Fin.ext ?_)
  show x.2.val + 512 * x.1.val = 512 * x.1.val + x.2.val
  exact Nat.add_comm _ _

/-- Where the devices hold their blocks of `X` and all of `W`, device `c`'s result is its block of the reference's. -/
theorem block_eq (hx : ∀ c : Dev nD, m ((c.tc : Thread nD τ).loc main_arg0) = Layout.block ⟨2, ![4096, 512]⟩ ⟨2, ![4096, 4096]⟩ 1 8 c X)
    (hw : ∀ c : Dev nD, m ((c.tc : Thread nD τ).loc main_arg1) = W) (c : Dev nD) :
    outVal m c = Layout.block ⟨2, ![512, 2048]⟩ ⟨2, ![4096, 2048]⟩ 0 8 c (refVal X W) := by
  have hX (b : Dev nD) (R : Fin 4096) (k : Fin 512) : xNum m b (ix2 R k) = X (ix2 R (rowAt b k)) := by
    have e : (win0_0.blk (0 : Fin 1)).view.emb (ix2 R k) = (ix2 R k : S4096x512.Idx) := by
      funext a
      refine Fin.ext ?_
      fin_cases a
      · show 0 * 4096 + 1 * R.val = R.val; omega
      · show 0 * 512 + 1 * k.val = k.val; omega
    refine (congrArg (m ((b.tc : Thread nD τ).loc main_arg0)) e).trans ((congrFun (hx b) (ix2 R k)).trans ?_)
    refine congrArg X ?_
    funext a
    refine Fin.ext ?_
    fin_cases a
    · rfl
    · show b.val * 512 + k.val = 512 * b.val + k.val; omega
  have hW : wNum m c = W := hw c
  have key (r : Fin 512) (q : Fin 2048) : (∑ b : Dev nD, term m c b r q) = dot X W (rowAt c r) q := by
    unfold dot
    rw [sum_columns]
    exact Finset.sum_congr rfl fun b _ => Finset.sum_congr rfl fun k _ => by rw [hX, hW]
  have hrow (r : Fin 512) (h : c.val * 512 + r.val < 4096) : (⟨c.val * 512 + r.val, h⟩ : Fin 4096) = rowAt c r :=
    Fin.ext (congrArg (· + r.val) (Nat.mul_comm _ _))
  funext i
  obtain ⟨r, q, rfl⟩ : ∃ (r : Fin 512) (q : Fin 2048), i = ix2 r q := ⟨i 0, i 1, eq_ix2 i⟩
  refine (out_apply m c r q).trans ?_
  rw [key, ← hrow r (by have h : c.val < 8 := c.isLt; omega)]
  rfl

end Block

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem

section Run
open Cert.KernelIdeal
variable {F : FTy → Type} [FloatOps F]

/-- Over any numbers, the program terminates without fault, leaves its arguments as they were and every semaphore
counter at zero. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1, (h.1 c).2.1⟩, h.2⟩) (Cert.Exchange.run_main m ρ)

/-- The kernel's body table is the ideal program's: the two have the same text. -/
theorem bodies_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl

/-- The same with the call's pipeline. -/
theorem defs_eq : Cert.Kernel.defs (F := F) = Cert.KernelIdeal.defs (F := F) :=
  congrArg (Pipeline.defs Cert.Kernel.pcfgs) bodies_eq

end Run

/-- The kernel's frame. Its text is the ideal program's, so the one run is read here over bits. -/
theorem frame_kernel : Cert.quiescent_Kernel := fun m ρ _ => by
  rw [defs_eq]
  exact frame_any (F := Bits) m ρ

/-- The ideal program's frame. -/
theorem frame_ideal : Cert.quiescent_KernelIdeal := fun m ρ _ => frame_any (F := Ideal) m ρ

/-- The same of the reference, which has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Every device's result is its block of rows of the activation of the whole product, and that is what the reference
returns. -/
theorem algebraic : Cert.algebraic_KernelIdeal_ReferenceIdeal := fun m ρ m' ρ' _ hin =>
  ⟨Cert.Exchange.refVal _ _,
    (θ_run Cert.KernelIdeal.defs _ _).mono
      (fun _ h c => ⟨(h.1 c).2.2.trans (Cert.Exchange.block_eq _ _ m (fun c => (hin c).1) (fun c => (hin c).2) c),
        (h.1 c).1, (h.1 c).2.1⟩)
      (Cert.Exchange.run_main (F := Ideal) m ρ),
    (θ_run Cert.ReferenceIdeal.defs _ _).mono
      (fun _ h => ⟨(h 0).1.trans (Cert.Exchange.program_eq _ _), (h 0).2⟩)
      (Cert.ReferenceIdeal.Value.run (F := Ideal) m' ρ')⟩

/-- The five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
